-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_sorted [hPre_in_range_sorted : Cert.Pre_in_range_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_sorted [hPre_in_range_sorted : Cert.Pre_in_range_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_sorted [hKernelIdeal : Cert.KernelIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_sorted [hReferenceIdeal : Cert.ReferenceIdeal.Facts] [hPre_in_range_sorted : Cert.Pre_in_range_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_sorted [hKernelIdeal : Cert.KernelIdeal.Facts] [hReferenceIdeal : Cert.ReferenceIdeal.Facts] [hPre_in_range_sorted : Cert.Pre_in_range_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_c)) (v4 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_c) = v3 c
          ∧ r.2.mem ((c.tc : Thread Cert.KernelIdeal.nD Cert.KernelIdeal.τ).loc Cert.KernelIdeal.main_c_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_c_17) = v3 c
          ∧ r.2.mem ((c.tc : Thread Cert.ReferenceIdeal.nD Cert.ReferenceIdeal.τ).loc Cert.ReferenceIdeal.main_c_18) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_sorted : Cert.Pre_in_range_sorted.Facts),
    quiescent_Kernel (hKernel := hKernel) (hPre_in_range := hPre_in_range)
    ∧ quiescent_KernelIdeal (hKernelIdeal := hKernelIdeal) (hPre_in_range := hPre_in_range)
    ∧ quiescent_KernelIdeal_pre_in_range_sorted (hKernelIdeal := hKernelIdeal) (hPre_in_range_sorted := hPre_in_range_sorted)
    ∧ quiescent_ReferenceIdeal (hReferenceIdeal := hReferenceIdeal)
    ∧ quiescent_ReferenceIdeal_pre_in_range_sorted (hReferenceIdeal := hReferenceIdeal) (hPre_in_range_sorted := hPre_in_range_sorted)
    ∧ preserves_Kernel_KernelIdeal
    ∧ algebraic_KernelIdeal_ReferenceIdeal_pre_in_range_sorted (hKernelIdeal := hKernelIdeal) (hReferenceIdeal := hReferenceIdeal) (hPre_in_range_sorted := hPre_in_range_sorted)
-- ==== Pre_in_range.lean ====
abbrev S8x256x128x128 : Shape := ⟨4, ![8, 256, 128, 128]⟩
abbrev S1024x2 : Shape := ⟨2, ![1024, 2]⟩
abbrev S1024 : Shape := ⟨1, ![1024]⟩
abbrev S1024x1 : Shape := ⟨2, ![1024, 1]⟩
abbrev S_ : Shape := ⟨0, ![]⟩

class Facts : Prop where
  slices_S1024x2_S1024x1_0_1 : S1024x2.Slices ![0, 1] S1024x1
  shapeCasts_S1024x1_S1024 : S1024x1.ShapeCasts S1024
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x256x128x128 .f32) (main_arg1 : IVec S1024x2 32) (main_arg2 : IVec S1024 32) : IVec S_ 1 :=
  let main_v0 : IVec S1024x1 32 := (extractStridedSlice S1024x1 ![0, 1] · slices_S1024x2_S1024x1_0_1) main_arg1
  let main_v1 : IVec S1024 32 := shapeCast S1024 main_v0 shapeCasts_S1024x1_S1024
  let main_c : IVec S_ 32 := constantI S_ 32 112#32
  let main_v2 : IVec S1024 32 := broadcastInDim S1024 ![] bcast_S_S1024 main_c
  let main_v3 : IVec S1024 1 := cmpi .slt main_v1 main_v2
  let main_c_0 : IVec S_ 1 := constantI S_ 1 1#1
  let main_v4 : IVec S_ 1 := (fun x v => Host.reduce IntOp.andi x v reducesTo_S1024_S_d0 h_S_) main_v3 main_c_0
  let main_c_1 : IVec S_ 32 := constantI S_ 32 0#32
  let main_v5 : IVec S1024 32 := broadcastInDim S1024 ![] bcast_S_S1024 main_c_1
  let main_v6 : IVec S1024 1 := cmpi .sge main_arg2 main_v5
  let main_c_2 : IVec S_ 32 := constantI S_ 32 8#32
  let main_v7 : IVec S1024 32 := broadcastInDim S1024 ![] bcast_S_S1024 main_c_2
  let main_v8 : IVec S1024 1 := cmpi .slt main_arg2 main_v7
  let main_v9 : IVec S1024 1 := andi main_v6 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v4 main_v10
  main_v11
-- ==== Pre_in_range_sorted.lean ====
abbrev S8x256x128x128 : Shape := ⟨4, ![8, 256, 128, 128]⟩
abbrev S1024x2 : Shape := ⟨2, ![1024, 2]⟩
abbrev S1024 : Shape := ⟨1, ![1024]⟩
abbrev S1024x1 : Shape := ⟨2, ![1024, 1]⟩
abbrev S_ : Shape := ⟨0, ![]⟩
abbrev S1023 : Shape := ⟨1, ![1023]⟩
abbrev S1 : Shape := ⟨1, ![1]⟩

class Facts : Prop where
  slices_S1024x2_S1024x1_0_1 : S1024x2.Slices ![0, 1] S1024x1
  shapeCasts_S1024x1_S1024 : S1024x1.ShapeCasts S1024
  bcast_S_S1024 : S_.BroadcastsInDim S1024 (![] : Fin 0 → Fin S1024.rank)
  reducesTo_S1024_S_d0 : S1024.ReducesTo [0] S_
  h_S_ : 0 < S_.numel
  slices_S1024_S1023_1 : S1024.Slices ![1] S1023
  slices_S1024_S1023_0 : S1024.Slices ![0] S1023
  reducesTo_S1023_S_d0 : S1023.ReducesTo [0] S_
  slices_S1024_S1_0 : S1024.Slices ![0] S1
  slices_S1024_S1_1 : S1024.Slices ![1] S1
  reducesTo_S1_S_d0 : S1.ReducesTo [0] S_

variable [Facts]

def fn_part1 {F : FTy → Type} [FloatOps F] (main_v4 : IVec S_ 1) (main_v10 : IVec S_ 1) (main_v14 : IVec S_ 1) (main_v17 : IVec S1 1) : IVec S_ 1 :=
  let main_c_5 : IVec S_ 1 := constantI S_ 1 1#1
  let main_v18 : IVec S_ 1 := (fun x v => Host.reduce IntOp.andi x v reducesTo_S1_S_d0 h_S_) main_v17 main_c_5
  let main_v19 : IVec S_ 1 := andi main_v4 main_v10
  let main_v20 : IVec S_ 1 := andi main_v19 main_v14
  let main_v21 : IVec S_ 1 := andi main_v20 main_v18
  main_v21

def fn {F : FTy → Type} [FloatOps F] (main_arg0 : FVec F S8x256x128x128 .f32) (main_arg1 : IVec S1024x2 32) (main_arg2 : IVec S1024 32) : IVec S_ 1 :=
  let main_v0 : IVec S1024x1 32 := (extractStridedSlice S1024x1 ![0, 1] · slices_S1024x2_S1024x1_0_1) main_arg1
  let main_v1 : IVec S1024 32 := shapeCast S1024 main_v0 shapeCasts_S1024x1_S1024
  let main_c : IVec S_ 32 := constantI S_ 32 112#32
  let main_v2 : IVec S1024 32 := broadcastInDim S1024 ![] bcast_S_S1024 main_c
  let main_v3 : IVec S1024 1 := cmpi .slt main_v1 main_v2
  let main_c_0 : IVec S_ 1 := constantI S_ 1 1#1
  let main_v4 : IVec S_ 1 := (fun x v => Host.reduce IntOp.andi x v reducesTo_S1024_S_d0 h_S_) main_v3 main_c_0
  let main_c_1 : IVec S_ 32 := constantI S_ 32 0#32
  let main_v5 : IVec S1024 32 := broadcastInDim S1024 ![] bcast_S_S1024 main_c_1
  let main_v6 : IVec S1024 1 := cmpi .sge main_arg2 main_v5
  let main_c_2 : IVec S_ 32 := constantI S_ 32 8#32
  let main_v7 : IVec S1024 32 := broadcastInDim S1024 ![] bcast_S_S1024 main_c_2
  let main_v8 : IVec S1024 1 := cmpi .slt main_arg2 main_v7
  let main_v9 : IVec S1024 1 := andi main_v6 main_v8
  let main_c_3 : IVec S_ 1 := constantI S_ 1 1#1
  let main_v10 : IVec S_ 1 := (fun x v => Host.reduce IntOp.andi x v reducesTo_S1024_S_d0 h_S_) main_v9 main_c_3
  let main_v11 : IVec S1023 32 := (extractStridedSlice S1023 ![1] · slices_S1024_S1023_1) main_arg2
  let main_v12 : IVec S1023 32 := (extractStridedSlice S1023 ![0] · slices_S1024_S1023_0) main_arg2
  let main_v13 : IVec S1023 1 := cmpi .sge main_v11 main_v12
  let main_c_4 : IVec S_ 1 := constantI S_ 1 1#1
  let main_v14 : IVec S_ 1 := (fun x v => Host.reduce IntOp.andi x v reducesTo_S1023_S_d0 h_S_) main_v13 main_c_4
  let main_v15 : IVec S1 32 := (extractStridedSlice S1 ![0] · slices_S1024_S1_0) main_arg2
  let main_v16 : IVec S1 32 := (extractStridedSlice S1 ![1] · slices_S1024_S1_1) main_arg2
  let main_v17 : IVec S1 1 := cmpi .eq main_v15 main_v16
  fn_part1 (F := F) main_v4 main_v10 main_v14 main_v17
-- ==== Kernel.lean ====
abbrev S8x256x128x128 : Shape := ⟨4, ![8, 256, 128, 128]⟩
abbrev S1024x2 : Shape := ⟨2, ![1024, 2]⟩
abbrev S1024 : Shape := ⟨1, ![1024]⟩
abbrev S2048 : Shape := ⟨1, ![2048]⟩
abbrev S1024x256x16x16 : Shape := ⟨4, ![1024, 256, 16, 16]⟩
abbrev S4096 : Shape := ⟨1, ![4096]⟩
abbrev S8 : Shape := ⟨1, ![8]⟩
abbrev S80 : Shape := ⟨1, ![80]⟩
abbrev S1040 : Shape := ⟨1, ![1040]⟩
abbrev S128 : Shape := ⟨1, ![128]⟩
abbrev S16 : Shape := ⟨1, ![16]⟩
abbrev S256x16x24 : Shape := ⟨3, ![256, 16, 24]⟩
abbrev S_ : Shape := ⟨0, ![]⟩
abbrev S64 : Shape := ⟨1, ![64]⟩
abbrev S1 : Shape := ⟨1, ![1]⟩
abbrev S1x256x16x24 : Shape := ⟨4, ![1, 256, 16, 24]⟩
abbrev S1x1x16 : Shape := ⟨3, ![1, 1, 16]⟩
abbrev S256x16x16 : Shape := ⟨3, ![256, 16, 16]⟩
abbrev S1x256x16x16 : Shape := ⟨4, ![1, 256, 16, 16]⟩
abbrev S1024x4 : Shape := ⟨2, ![1024, 4]⟩

abbrev nBuf : Table → Nat
  | .hbm => 10
  | .local .scVector .vmem => 5
  | _ => 0

abbrev bufTy : (tb : Table) → Fin (nBuf tb) → BufTy
  | .hbm, ⟨0, _⟩ => ⟨S8x256x128x128, .f32⟩
  | .hbm, ⟨1, _⟩ => ⟨S1024x2, .i32⟩
  | .hbm, ⟨2, _⟩ => ⟨S1024, .i32⟩
  | .hbm, ⟨3, _⟩ => ⟨S2048, .i32⟩
  | .hbm, ⟨4, _⟩ => ⟨S1024x256x16x16, .f32⟩
  | .hbm, ⟨5, _⟩ => ⟨S4096, .i32⟩
  | .hbm, ⟨6, _⟩ => ⟨S8, .i32⟩
  | .hbm, ⟨7, _⟩ => ⟨S1024x4, .i32⟩
  | .hbm, ⟨8, _⟩ => ⟨S_, .i32⟩
  | .hbm, ⟨9, _⟩ => ⟨S_, .i32⟩
  | .local .scVector .vmem, ⟨0, _⟩ => ⟨S80, .i32⟩
  | .local .scVector .vmem, ⟨1, _⟩ => ⟨S1040, .i32⟩
  | .local .scVector .vmem, ⟨2, _⟩ => ⟨S128, .i32⟩
  | .local .scVector .vmem, ⟨3, _⟩ => ⟨S16, .i32⟩
  | .local .scVector .vmem, ⟨4, _⟩ => ⟨S256x16x24, .f32⟩
  | _, _ => ⟨S8x256x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_arg0_scv : Ref sig .scVector := ⟨.hbm, 0, rfl⟩
abbrev main_v0_scv : Ref sig .scVector := ⟨.hbm, 3, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev main_v1_2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_0 : BitVec 32 := 2#32
  let v3 : BitVec 32 := Scalar.muli v2 c2_i32_0
  ![v3.toNat]
@[reducible] def k0_t1_loop : Scf.Loop 32 :=
  let c0_i32_1 : BitVec 32 := 0#32
  let c32_i32_2 : BitVec 32 := 32#32
  let v4 : BitVec 32 := Scalar.addi c0_i32_1 c32_i32_2
  let c1_i32 : BitVec 32 := 1#32
  ⟨c0_i32_1, v4, c1_i32⟩
def k0_off2 (k0_t1 : Fin k0_t1_loop.trips) : Fin 1 → Nat :=
  let c2_i32_337 : BitVec 32 := 2#32
  let c0_i32_1 : BitVec 32 := 0#32
  let c1_i32 : BitVec 32 := 1#32
  let arg14 : BitVec 32 := Scf.iv c0_i32_1 c1_i32 k0_t1
  let v903 : BitVec 32 := Scalar.muli c2_i32_337 arg14
  let v904 : Index := Scalar.indexCast v903
  ![v904.toNat]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg14 : BitVec 32 := Scf.iv c0_i32_1 c1_i32 k0_t1
  let v907 : BitVec 32 := Scalar.addi v2 arg14
  let v908 : Index := Scalar.indexCast v907
  ![v908.toNat]
def k0_mult1 (v914 : BitVec 32) : BitVec 32 :=
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  v938

def k0_off4 (v912 : BitVec 32) (v914 : BitVec 32) (v916 : BitVec 32) : Fin 4 → Nat :=
  let c0_i32_357_r2 : BitVec 32 := 0#32
  let c0_i32_338 : BitVec 32 := 0#32
  let v917 : BitVec 32 := Scalar.maxsi v912 c0_i32_338
  let c112_i32_339 : BitVec 32 := 112#32
  let v918 : BitVec 32 := Scalar.minsi v917 c112_i32_339
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  ![v916.toNat, 0, v918.toNat, v939.toNat]

def k0_chk2 (v912 : BitVec 32) (v914 : BitVec 32) (v916 : BitVec 32) : Prop :=
  (∀ a, (k0_off4 v912 v914 v916) a + S1x256x16x24.size a ≤ S8x256x128x128.size a)
theorem k0_off4_inb : ∀ (v912 : BitVec 32) (v914 : BitVec 32) (v916 : BitVec 32) (k0_hw2 : k0_chk2 v912 v914 v916), ∀ a, (k0_off4 v912 v914 v916) a + S1x256x16x24.size a ≤ S8x256x128x128.size a := fun v912 v914 v916 k0_hw2 => k0_hw2

@[reducible] def k0_t2_loop (v914 : BitVec 32) : Scf.Loop 32 :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_354 : BitVec 32 := 1#32
  ⟨c0_i32_351, v947, c1_i32_354⟩
def k0_off5 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v951 : Index := Scalar.indexCast arg16
  let c0_i32_357 : BitVec 32 := 0#32
  let v952 : Index := Scalar.indexCast c0_i32_357
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v953 : Index := Scalar.indexCast v940
  ![v951.toNat, 0, v953.toNat]
def k0_off6 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v956 : Index := Scalar.indexCast arg16
  let c0_i32_358 : BitVec 32 := 0#32
  let v957 : Index := Scalar.indexCast c0_i32_358
  let c0_359 : Index := 0#32
  ![v956.toNat, 0, 0]
def k0_off7 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v961 : Index := Scalar.indexCast arg16
  let c1_i32_360 : BitVec 32 := 1#32
  let v962 : Index := Scalar.indexCast c1_i32_360
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v963 : Index := Scalar.indexCast v940
  ![v961.toNat, 1, v963.toNat]
def k0_off8 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v966 : Index := Scalar.indexCast arg16
  let c1_i32_361 : BitVec 32 := 1#32
  let v967 : Index := Scalar.indexCast c1_i32_361
  let c0_362 : Index := 0#32
  ![v966.toNat, 1, 0]
def k0_off9 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v971 : Index := Scalar.indexCast arg16
  let c2_i32_363 : BitVec 32 := 2#32
  let v972 : Index := Scalar.indexCast c2_i32_363
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v973 : Index := Scalar.indexCast v940
  ![v971.toNat, 2, v973.toNat]
def k0_off10 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v976 : Index := Scalar.indexCast arg16
  let c2_i32_364 : BitVec 32 := 2#32
  let v977 : Index := Scalar.indexCast c2_i32_364
  let c0_365 : Index := 0#32
  ![v976.toNat, 2, 0]
def k0_off11 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v981 : Index := Scalar.indexCast arg16
  let c3_i32_366 : BitVec 32 := 3#32
  let v982 : Index := Scalar.indexCast c3_i32_366
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v983 : Index := Scalar.indexCast v940
  ![v981.toNat, 3, v983.toNat]
def k0_off12 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v986 : Index := Scalar.indexCast arg16
  let c3_i32_367 : BitVec 32 := 3#32
  let v987 : Index := Scalar.indexCast c3_i32_367
  let c0_368 : Index := 0#32
  ![v986.toNat, 3, 0]
def k0_off13 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v991 : Index := Scalar.indexCast arg16
  let c4_i32_369 : BitVec 32 := 4#32
  let v992 : Index := Scalar.indexCast c4_i32_369
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v993 : Index := Scalar.indexCast v940
  ![v991.toNat, 4, v993.toNat]
def k0_off14 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v996 : Index := Scalar.indexCast arg16
  let c4_i32_370 : BitVec 32 := 4#32
  let v997 : Index := Scalar.indexCast c4_i32_370
  let c0_371 : Index := 0#32
  ![v996.toNat, 4, 0]
def k0_off15 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1001 : Index := Scalar.indexCast arg16
  let c5_i32 : BitVec 32 := 5#32
  let v1002 : Index := Scalar.indexCast c5_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1003 : Index := Scalar.indexCast v940
  ![v1001.toNat, 5, v1003.toNat]
def k0_off16 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1006 : Index := Scalar.indexCast arg16
  let c5_i32_372 : BitVec 32 := 5#32
  let v1007 : Index := Scalar.indexCast c5_i32_372
  let c0_373 : Index := 0#32
  ![v1006.toNat, 5, 0]
def k0_off17 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1011 : Index := Scalar.indexCast arg16
  let c6_i32 : BitVec 32 := 6#32
  let v1012 : Index := Scalar.indexCast c6_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1013 : Index := Scalar.indexCast v940
  ![v1011.toNat, 6, v1013.toNat]
def k0_off18 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1016 : Index := Scalar.indexCast arg16
  let c6_i32_374 : BitVec 32 := 6#32
  let v1017 : Index := Scalar.indexCast c6_i32_374
  let c0_375 : Index := 0#32
  ![v1016.toNat, 6, 0]
def k0_off19 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1021 : Index := Scalar.indexCast arg16
  let c7_i32 : BitVec 32 := 7#32
  let v1022 : Index := Scalar.indexCast c7_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1023 : Index := Scalar.indexCast v940
  ![v1021.toNat, 7, v1023.toNat]
def k0_off20 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1026 : Index := Scalar.indexCast arg16
  let c7_i32_376 : BitVec 32 := 7#32
  let v1027 : Index := Scalar.indexCast c7_i32_376
  let c0_377 : Index := 0#32
  ![v1026.toNat, 7, 0]
def k0_off21 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1031 : Index := Scalar.indexCast arg16
  let c8_i32_378 : BitVec 32 := 8#32
  let v1032 : Index := Scalar.indexCast c8_i32_378
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1033 : Index := Scalar.indexCast v940
  ![v1031.toNat, 8, v1033.toNat]
def k0_off22 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1036 : Index := Scalar.indexCast arg16
  let c8_i32_379 : BitVec 32 := 8#32
  let v1037 : Index := Scalar.indexCast c8_i32_379
  let c0_380 : Index := 0#32
  ![v1036.toNat, 8, 0]
def k0_off23 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1041 : Index := Scalar.indexCast arg16
  let c9_i32 : BitVec 32 := 9#32
  let v1042 : Index := Scalar.indexCast c9_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1043 : Index := Scalar.indexCast v940
  ![v1041.toNat, 9, v1043.toNat]
def k0_off24 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1046 : Index := Scalar.indexCast arg16
  let c9_i32_381 : BitVec 32 := 9#32
  let v1047 : Index := Scalar.indexCast c9_i32_381
  let c0_382 : Index := 0#32
  ![v1046.toNat, 9, 0]
def k0_off25 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1051 : Index := Scalar.indexCast arg16
  let c10_i32 : BitVec 32 := 10#32
  let v1052 : Index := Scalar.indexCast c10_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1053 : Index := Scalar.indexCast v940
  ![v1051.toNat, 10, v1053.toNat]
def k0_off26 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1056 : Index := Scalar.indexCast arg16
  let c10_i32_383 : BitVec 32 := 10#32
  let v1057 : Index := Scalar.indexCast c10_i32_383
  let c0_384 : Index := 0#32
  ![v1056.toNat, 10, 0]
def k0_off27 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1061 : Index := Scalar.indexCast arg16
  let c11_i32 : BitVec 32 := 11#32
  let v1062 : Index := Scalar.indexCast c11_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1063 : Index := Scalar.indexCast v940
  ![v1061.toNat, 11, v1063.toNat]
def k0_off28 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1066 : Index := Scalar.indexCast arg16
  let c11_i32_385 : BitVec 32 := 11#32
  let v1067 : Index := Scalar.indexCast c11_i32_385
  let c0_386 : Index := 0#32
  ![v1066.toNat, 11, 0]
def k0_off29 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1071 : Index := Scalar.indexCast arg16
  let c12_i32 : BitVec 32 := 12#32
  let v1072 : Index := Scalar.indexCast c12_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1073 : Index := Scalar.indexCast v940
  ![v1071.toNat, 12, v1073.toNat]
def k0_off30 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1076 : Index := Scalar.indexCast arg16
  let c12_i32_387 : BitVec 32 := 12#32
  let v1077 : Index := Scalar.indexCast c12_i32_387
  let c0_388 : Index := 0#32
  ![v1076.toNat, 12, 0]
def k0_off31 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1081 : Index := Scalar.indexCast arg16
  let c13_i32 : BitVec 32 := 13#32
  let v1082 : Index := Scalar.indexCast c13_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1083 : Index := Scalar.indexCast v940
  ![v1081.toNat, 13, v1083.toNat]
def k0_off32 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1086 : Index := Scalar.indexCast arg16
  let c13_i32_389 : BitVec 32 := 13#32
  let v1087 : Index := Scalar.indexCast c13_i32_389
  let c0_390 : Index := 0#32
  ![v1086.toNat, 13, 0]
def k0_off33 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1091 : Index := Scalar.indexCast arg16
  let c14_i32 : BitVec 32 := 14#32
  let v1092 : Index := Scalar.indexCast c14_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1093 : Index := Scalar.indexCast v940
  ![v1091.toNat, 14, v1093.toNat]
def k0_off34 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1096 : Index := Scalar.indexCast arg16
  let c14_i32_391 : BitVec 32 := 14#32
  let v1097 : Index := Scalar.indexCast c14_i32_391
  let c0_392 : Index := 0#32
  ![v1096.toNat, 14, 0]
def k0_off35 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1101 : Index := Scalar.indexCast arg16
  let c15_i32 : BitVec 32 := 15#32
  let v1102 : Index := Scalar.indexCast c15_i32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let v1103 : Index := Scalar.indexCast v940
  ![v1101.toNat, 15, v1103.toNat]
def k0_off36 (v914 : BitVec 32) (k0_t2 : Fin (k0_t2_loop v914).trips) : Fin 3 → Nat :=
  let c0_i32_351 : BitVec 32 := 0#32
  let c1_i32_354 : BitVec 32 := 1#32
  let arg16 : BitVec 32 := Scf.iv c0_i32_351 c1_i32_354 k0_t2
  let v1106 : Index := Scalar.indexCast arg16
  let c15_i32_393 : BitVec 32 := 15#32
  let v1107 : Index := Scalar.indexCast c15_i32_393
  let c0_394 : Index := 0#32
  ![v1106.toNat, 15, 0]
@[reducible] def k0_t3_loop (v914 : BitVec 32) : Scf.Loop 32 :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let v944 : BitVec 32 := Scalar.addi c0_i32_351 v943
  let c1_i32_355 : BitVec 32 := 1#32
  ⟨v947, v944, c1_i32_355⟩
def k0_off37 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v951 : Index := Scalar.indexCast arg16
  let c0_i32_357 : BitVec 32 := 0#32
  let v952 : Index := Scalar.indexCast c0_i32_357
  let v953 : Index := Scalar.indexCast v940
  ![v951.toNat, 0, v953.toNat]
def k0_off38 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v956 : Index := Scalar.indexCast arg16
  let c0_i32_358 : BitVec 32 := 0#32
  let v957 : Index := Scalar.indexCast c0_i32_358
  let c0_359 : Index := 0#32
  ![v956.toNat, 0, 0]
def k0_off39 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v961 : Index := Scalar.indexCast arg16
  let c1_i32_360 : BitVec 32 := 1#32
  let v962 : Index := Scalar.indexCast c1_i32_360
  let v963 : Index := Scalar.indexCast v940
  ![v961.toNat, 1, v963.toNat]
def k0_off40 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v966 : Index := Scalar.indexCast arg16
  let c1_i32_361 : BitVec 32 := 1#32
  let v967 : Index := Scalar.indexCast c1_i32_361
  let c0_362 : Index := 0#32
  ![v966.toNat, 1, 0]
def k0_off41 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v971 : Index := Scalar.indexCast arg16
  let c2_i32_363 : BitVec 32 := 2#32
  let v972 : Index := Scalar.indexCast c2_i32_363
  let v973 : Index := Scalar.indexCast v940
  ![v971.toNat, 2, v973.toNat]
def k0_off42 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v976 : Index := Scalar.indexCast arg16
  let c2_i32_364 : BitVec 32 := 2#32
  let v977 : Index := Scalar.indexCast c2_i32_364
  let c0_365 : Index := 0#32
  ![v976.toNat, 2, 0]
def k0_off43 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v981 : Index := Scalar.indexCast arg16
  let c3_i32_366 : BitVec 32 := 3#32
  let v982 : Index := Scalar.indexCast c3_i32_366
  let v983 : Index := Scalar.indexCast v940
  ![v981.toNat, 3, v983.toNat]
def k0_off44 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v986 : Index := Scalar.indexCast arg16
  let c3_i32_367 : BitVec 32 := 3#32
  let v987 : Index := Scalar.indexCast c3_i32_367
  let c0_368 : Index := 0#32
  ![v986.toNat, 3, 0]
def k0_off45 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v991 : Index := Scalar.indexCast arg16
  let c4_i32_369 : BitVec 32 := 4#32
  let v992 : Index := Scalar.indexCast c4_i32_369
  let v993 : Index := Scalar.indexCast v940
  ![v991.toNat, 4, v993.toNat]
def k0_off46 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v996 : Index := Scalar.indexCast arg16
  let c4_i32_370 : BitVec 32 := 4#32
  let v997 : Index := Scalar.indexCast c4_i32_370
  let c0_371 : Index := 0#32
  ![v996.toNat, 4, 0]
def k0_off47 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1001 : Index := Scalar.indexCast arg16
  let c5_i32 : BitVec 32 := 5#32
  let v1002 : Index := Scalar.indexCast c5_i32
  let v1003 : Index := Scalar.indexCast v940
  ![v1001.toNat, 5, v1003.toNat]
def k0_off48 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1006 : Index := Scalar.indexCast arg16
  let c5_i32_372 : BitVec 32 := 5#32
  let v1007 : Index := Scalar.indexCast c5_i32_372
  let c0_373 : Index := 0#32
  ![v1006.toNat, 5, 0]
def k0_off49 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1011 : Index := Scalar.indexCast arg16
  let c6_i32 : BitVec 32 := 6#32
  let v1012 : Index := Scalar.indexCast c6_i32
  let v1013 : Index := Scalar.indexCast v940
  ![v1011.toNat, 6, v1013.toNat]
def k0_off50 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1016 : Index := Scalar.indexCast arg16
  let c6_i32_374 : BitVec 32 := 6#32
  let v1017 : Index := Scalar.indexCast c6_i32_374
  let c0_375 : Index := 0#32
  ![v1016.toNat, 6, 0]
def k0_off51 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1021 : Index := Scalar.indexCast arg16
  let c7_i32 : BitVec 32 := 7#32
  let v1022 : Index := Scalar.indexCast c7_i32
  let v1023 : Index := Scalar.indexCast v940
  ![v1021.toNat, 7, v1023.toNat]
def k0_off52 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1026 : Index := Scalar.indexCast arg16
  let c7_i32_376 : BitVec 32 := 7#32
  let v1027 : Index := Scalar.indexCast c7_i32_376
  let c0_377 : Index := 0#32
  ![v1026.toNat, 7, 0]
def k0_off53 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1031 : Index := Scalar.indexCast arg16
  let c8_i32_378 : BitVec 32 := 8#32
  let v1032 : Index := Scalar.indexCast c8_i32_378
  let v1033 : Index := Scalar.indexCast v940
  ![v1031.toNat, 8, v1033.toNat]
def k0_off54 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1036 : Index := Scalar.indexCast arg16
  let c8_i32_379 : BitVec 32 := 8#32
  let v1037 : Index := Scalar.indexCast c8_i32_379
  let c0_380 : Index := 0#32
  ![v1036.toNat, 8, 0]
def k0_off55 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1041 : Index := Scalar.indexCast arg16
  let c9_i32 : BitVec 32 := 9#32
  let v1042 : Index := Scalar.indexCast c9_i32
  let v1043 : Index := Scalar.indexCast v940
  ![v1041.toNat, 9, v1043.toNat]
def k0_off56 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1046 : Index := Scalar.indexCast arg16
  let c9_i32_381 : BitVec 32 := 9#32
  let v1047 : Index := Scalar.indexCast c9_i32_381
  let c0_382 : Index := 0#32
  ![v1046.toNat, 9, 0]
def k0_off57 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1051 : Index := Scalar.indexCast arg16
  let c10_i32 : BitVec 32 := 10#32
  let v1052 : Index := Scalar.indexCast c10_i32
  let v1053 : Index := Scalar.indexCast v940
  ![v1051.toNat, 10, v1053.toNat]
def k0_off58 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1056 : Index := Scalar.indexCast arg16
  let c10_i32_383 : BitVec 32 := 10#32
  let v1057 : Index := Scalar.indexCast c10_i32_383
  let c0_384 : Index := 0#32
  ![v1056.toNat, 10, 0]
def k0_off59 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1061 : Index := Scalar.indexCast arg16
  let c11_i32 : BitVec 32 := 11#32
  let v1062 : Index := Scalar.indexCast c11_i32
  let v1063 : Index := Scalar.indexCast v940
  ![v1061.toNat, 11, v1063.toNat]
def k0_off60 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1066 : Index := Scalar.indexCast arg16
  let c11_i32_385 : BitVec 32 := 11#32
  let v1067 : Index := Scalar.indexCast c11_i32_385
  let c0_386 : Index := 0#32
  ![v1066.toNat, 11, 0]
def k0_off61 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1071 : Index := Scalar.indexCast arg16
  let c12_i32 : BitVec 32 := 12#32
  let v1072 : Index := Scalar.indexCast c12_i32
  let v1073 : Index := Scalar.indexCast v940
  ![v1071.toNat, 12, v1073.toNat]
def k0_off62 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1076 : Index := Scalar.indexCast arg16
  let c12_i32_387 : BitVec 32 := 12#32
  let v1077 : Index := Scalar.indexCast c12_i32_387
  let c0_388 : Index := 0#32
  ![v1076.toNat, 12, 0]
def k0_off63 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1081 : Index := Scalar.indexCast arg16
  let c13_i32 : BitVec 32 := 13#32
  let v1082 : Index := Scalar.indexCast c13_i32
  let v1083 : Index := Scalar.indexCast v940
  ![v1081.toNat, 13, v1083.toNat]
def k0_off64 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1086 : Index := Scalar.indexCast arg16
  let c13_i32_389 : BitVec 32 := 13#32
  let v1087 : Index := Scalar.indexCast c13_i32_389
  let c0_390 : Index := 0#32
  ![v1086.toNat, 13, 0]
def k0_off65 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1091 : Index := Scalar.indexCast arg16
  let c14_i32 : BitVec 32 := 14#32
  let v1092 : Index := Scalar.indexCast c14_i32
  let v1093 : Index := Scalar.indexCast v940
  ![v1091.toNat, 14, v1093.toNat]
def k0_off66 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1096 : Index := Scalar.indexCast arg16
  let c14_i32_391 : BitVec 32 := 14#32
  let v1097 : Index := Scalar.indexCast c14_i32_391
  let c0_392 : Index := 0#32
  ![v1096.toNat, 14, 0]
def k0_off67 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1101 : Index := Scalar.indexCast arg16
  let c15_i32 : BitVec 32 := 15#32
  let v1102 : Index := Scalar.indexCast c15_i32
  let v1103 : Index := Scalar.indexCast v940
  ![v1101.toNat, 15, v1103.toNat]
def k0_off68 (v914 : BitVec 32) (k0_t3 : Fin (k0_t3_loop v914).trips) : Fin 3 → Nat :=
  let c0_i32_351 : BitVec 32 := 0#32
  let c0_i32_340 : BitVec 32 := 0#32
  let v919 : BitVec 32 := Scalar.maxsi v914 c0_i32_340
  let c112_i32_341 : BitVec 32 := 112#32
  let v920 : BitVec 32 := Scalar.minsi v919 c112_i32_341
  let c0_i32_342 : BitVec 32 := 0#32
  let v922 : BitVec 1 := Scalar.cmpi .sgt v920 c0_i32_342
  let v923 : BitVec 32 := Scalar.extui v922
  let c0_i32_343 : BitVec 32 := 0#32
  let v924 : BitVec 1 := Scalar.cmpi .slt v920 c0_i32_343
  let v925 : BitVec 32 := Scalar.extui v924
  let v926 : BitVec 32 := Scalar.subi v923 v925
  let c8_i32 : BitVec 32 := 8#32
  let c0_i32_344 : BitVec 32 := 0#32
  let v927 : BitVec 1 := Scalar.cmpi .sgt c8_i32 c0_i32_344
  let v928 : BitVec 32 := Scalar.extui v927
  let c0_i32_345 : BitVec 32 := 0#32
  let v929 : BitVec 1 := Scalar.cmpi .slt c8_i32 c0_i32_345
  let v930 : BitVec 32 := Scalar.extui v929
  let v931 : BitVec 32 := Scalar.subi v928 v930
  let v932 : BitVec 1 := Scalar.cmpi .ne v926 v931
  let v933 : BitVec 32 := Scalar.remsi v920 c8_i32
  let c0_i32_346 : BitVec 32 := 0#32
  let v934 : BitVec 1 := Scalar.cmpi .ne v933 c0_i32_346
  let v935 : BitVec 1 := Scalar.andi v932 v934
  let v921 : BitVec 32 := Scalar.divsi v920 c8_i32
  let c1_i32_347 : BitVec 32 := 1#32
  let v936 : BitVec 32 := Scalar.subi v921 c1_i32_347
  let v937 : BitVec 32 := Scalar.select v935 v936 v921
  let c8_i32_348 : BitVec 32 := 8#32
  let v938 : BitVec 32 := Scalar.muli v937 c8_i32_348
  let v939 : BitVec 32 := v938
  let v940 : BitVec 32 := Scalar.subi v920 v939
  let c0_i32_349 : BitVec 32 := 0#32
  let v941 : BitVec 1 := Scalar.cmpi .sgt v940 c0_i32_349
  let c256_i32 : BitVec 32 := 256#32
  let c0_i32_350 : BitVec 32 := 0#32
  let v942 : BitVec 32 := Scalar.select v941 c256_i32 c0_i32_350
  let v943 : BitVec 32 := Scalar.subi v942 c0_i32_351
  let c1_i32_353 : BitVec 32 := 1#32
  let v945 : BitVec 32 := Scalar.divsi v943 c1_i32_353
  let v946 : BitVec 32 := Scalar.muli v945 c1_i32_353
  let v947 : BitVec 32 := Scalar.addi c0_i32_351 v946
  let c1_i32_355 : BitVec 32 := 1#32
  let arg16 : BitVec 32 := Scf.iv v947 c1_i32_355 k0_t3
  let v1106 : Index := Scalar.indexCast arg16
  let c15_i32_393 : BitVec 32 := 15#32
  let v1107 : Index := Scalar.indexCast c15_i32_393
  let c0_394 : Index := 0#32
  ![v1106.toNat, 15, 0]

def k0_chk1_0 (v914 : BitVec 32) : Prop :=
  (8 ∣ (k0_mult1 v914).toNat) ∧
  ((k0_t2_loop v914).OK) ∧
  (∀ k0_t2 : Fin (k0_t2_loop v914).trips, ∀ a, (k0_off5 v914 k0_t2) a + S1x1x16.size a ≤ S256x16x24.size a) ∧
  (∀ k0_t2 : Fin (k0_t2_loop v914).trips, ∀ a, (k0_off6 v914 k0_t2) a + S1x1x16.size a ≤ S256x16x24.size a) ∧
  (∀ k0_t2 : Fin (k0_t2_loop v914).trips, ∀ a, (k0_off7 v914 k0_t2) a + S1x1x16.size a ≤ S256x16x24.size a) ∧
  (∀ k0_t2 : Fin (k0_t2_loop v914).trips, ∀ a, (k0_off8 v914 k0_t2) a + S1x1x16.size a ≤ S256x16x24.size a) ∧
  (∀ k0_t2 : Fin (k0_t2_loop v914).trips, ∀ a, (k0_off9 v914 k0_t2) a + S1x1x16.size a ≤ S256x16x24.size a) ∧
  (∀ k0_t2 : Fin (k0_t2_loop v914).trips, ∀ a, (k0_off10 v914 k0_t2) a + S1x1x16.size a ≤ S256x16x24.size a) ∧
  (∀ k0_t2 : Fin (k0_t2_loop v914).trips, ∀ a, (k0_off11 v914 k0_t2) a + S1x1x16.size a ≤ S256x16x24.size a) ∧
  (∀ k0_t2 : Fin (k0_t2_loop v914).trips, ∀ a, (k0_off12 v914 k0_t2) a + S1x1x16.size a ≤ S256x16x24.size a) ∧
  (∀ k0_t2 : Fin (k0_t2_loop v914).trips, ∀ a, (k0_off13 v914 k0_t2) a + S1x1x16.size a ≤ S256x16x24.size a) ∧
  (∀ k0_t2 : Fin (k0_t2_loop v914).trips, ∀ a, (k0_off14 v914 k0_t2) a + S1x1x16.size a ≤ S256x16x24.size a) ∧
  (∀ k0_t2 : Fin (k0_t2_loop v914).trips, ∀ a, (k0_off15 v914 k0_t2) a + S1x1x16.size a ≤ S256x16x24.size a) ∧
  (∀ k0_t2 : Fin (k0_t2_loop v914).trips, ∀ a, (k0_off16 v914 k0_t2) a + S1x1x16.size a ≤ S256x16x24.size a) ∧
  (∀ k0_t2 : Fin (k0_t2_loop v914).trips, ∀ a, (k0_off17 v914 k0_t2) a + S1x1x16.size a ≤ S256x16x24.size a) ∧
  (∀ k0_t2 : Fin (k0_t2_loop v914).trips, ∀ a, (k0_off18 v914 k0_t2) a + S1x1x16.size a ≤ S256x16x24.size a) ∧
  (∀ k0_t2 : Fin (k0_t2_loop v914).trips, ∀ a, (k0_off19 v914 k0_t2) a + S1x1x16.size a ≤ S256x16x24.size a) ∧
  (∀ k0_t2 : Fin (k0_t2_loop v914).trips, ∀ a, (k0_off20 v914 k0_t2) a + S1x1x16.size a ≤ S256x16x24.size a) ∧
  (∀ k0_t2 : Fin (k0_t2_loop v914).trips, ∀ a, (k0_off21 v914 k0_t2) a + S1x1x16.size a ≤ S256x16x24.size a) ∧
  (∀ k0_t2 : Fin (k0_t2_loop v914).trips, ∀ a, (k0_off22 v914 k0_t2) a + S1x1x16.size a ≤ S256x16x24.size a) ∧
  (∀ k0_t2 : Fin (k0_t2_loop v914).trips, ∀ a, (k0_off23 v914 k0_t2) a + S1x1x16.size a ≤ S256x16x24.size a) ∧
  (∀ k0_t2 : Fin (k0_t2_loop v914).trips, ∀ a, (k0_off24 v914 k0_t2) a + S1x1x16.size a ≤ S256x16x24.size a) ∧
  (∀ k0_t2 : Fin (k0_t2_loop v914).trips, ∀ a, (k0_off25 v914 k0_t2) a + S1x1x16.size a ≤ S256x16x24.size a) ∧
  (∀ k0_t2 : Fin (k0_t2_loop v914).trips, ∀ a, (k0_off26 v914 k0_t2) a + S1x1x16.size a ≤ S256x16x24.size a) ∧
  (∀ k0_t2 : Fin (k0_t2_loop v914).trips, ∀ a, (k0_off27 v914 k0_t2) a + S1x1x16.size a ≤ S256x16x24.size a) ∧
  (∀ k0_t2 : Fin (k0_t2_loop v914).trips, ∀ a, (k0_off28 v914 k0_t2) a + S1x1x16.size a ≤ S256x16x24.size a) ∧
  (∀ k0_t2 : Fin (k0_t2_loop v914).trips, ∀ a, (k0_off29 v914 k0_t2) a + S1x1x16.size a ≤ S256x16x24.size a) ∧
  (∀ k0_t2 : Fin (k0_t2_loop v914).trips, ∀ a, (k0_off30 v914 k0_t2) a + S1x1x16.size a ≤ S256x16x24.size a) ∧
  (∀ k0_t2 : Fin (k0_t2_loop v914).trips, ∀ a, (k0_off31 v914 k0_t2) a + S1x1x16.size a ≤ S256x16x24.size a) ∧
  (∀ k0_t2 : Fin (k0_t2_loop v914).trips, ∀ a, (k0_off32 v914 k0_t2) a + S1x1x16.size a ≤ S256x16x24.size a) ∧
  (∀ k0_t2 : Fin (k0_t2_loop v914).trips, ∀ a, (k0_off33 v914 k0_t2) a + S1x1x16.size a ≤ S256x16x24.size a) ∧
  (∀ k0_t2 : Fin (k0_t2_loop v914).trips, ∀ a, (k0_off34 v914 k0_t2) a + S1x1x16.size a ≤ S256x16x24.size a)
def k0_chk1_1 (v914 : BitVec 32) : Prop :=
  (∀ k0_t2 : Fin (k0_t2_loop v914).trips, ∀ a, (k0_off35 v914 k0_t2) a + S1x1x16.size a ≤ S256x16x24.size a) ∧
  (∀ k0_t2 : Fin (k0_t2_loop v914).trips, ∀ a, (k0_off36 v914 k0_t2) a + S1x1x16.size a ≤ S256x16x24.size a) ∧
  ((k0_t3_loop v914).OK) ∧
  (∀ k0_t3 : Fin (k0_t3_loop v914).trips, ∀ a, (k0_off37 v914 k0_t3) a + S1x1x16.size a ≤ S256x16x24.size a) ∧
  (∀ k0_t3 : Fin (k0_t3_loop v914).trips, ∀ a, (k0_off38 v914 k0_t3) a + S1x1x16.size a ≤ S256x16x24.size a) ∧
  (∀ k0_t3 : Fin (k0_t3_loop v914).trips, ∀ a, (k0_off39 v914 k0_t3) a + S1x1x16.size a ≤ S256x16x24.size a) ∧
  (∀ k0_t3 : Fin (k0_t3_loop v914).trips, ∀ a, (k0_off40 v914 k0_t3) a + S1x1x16.size a ≤ S256x16x24.size a) ∧
  (∀ k0_t3 : Fin (k0_t3_loop v914).trips, ∀ a, (k0_off41 v914 k0_t3) a + S1x1x16.size a ≤ S256x16x24.size a) ∧
  (∀ k0_t3 : Fin (k0_t3_loop v914).trips, ∀ a, (k0_off42 v914 k0_t3) a + S1x1x16.size a ≤ S256x16x24.size a) ∧
  (∀ k0_t3 : Fin (k0_t3_loop v914).trips, ∀ a, (k0_off43 v914 k0_t3) a + S1x1x16.size a ≤ S256x16x24.size a) ∧
  (∀ k0_t3 : Fin (k0_t3_loop v914).trips, ∀ a, (k0_off44 v914 k0_t3) a + S1x1x16.size a ≤ S256x16x24.size a) ∧
  (∀ k0_t3 : Fin (k0_t3_loop v914).trips, ∀ a, (k0_off45 v914 k0_t3) a + S1x1x16.size a ≤ S256x16x24.size a) ∧
  (∀ k0_t3 : Fin (k0_t3_loop v914).trips, ∀ a, (k0_off46 v914 k0_t3) a + S1x1x16.size a ≤ S256x16x24.size a) ∧
  (∀ k0_t3 : Fin (k0_t3_loop v914).trips, ∀ a, (k0_off47 v914 k0_t3) a + S1x1x16.size a ≤ S256x16x24.size a) ∧
  (∀ k0_t3 : Fin (k0_t3_loop v914).trips, ∀ a, (k0_off48 v914 k0_t3) a + S1x1x16.size a ≤ S256x16x24.size a) ∧
  (∀ k0_t3 : Fin (k0_t3_loop v914).trips, ∀ a, (k0_off49 v914 k0_t3) a + S1x1x16.size a ≤ S256x16x24.size a) ∧
  (∀ k0_t3 : Fin (k0_t3_loop v914).trips, ∀ a, (k0_off50 v914 k0_t3) a + S1x1x16.size a ≤ S256x16x24.size a) ∧
  (∀ k0_t3 : Fin (k0_t3_loop v914).trips, ∀ a, (k0_off51 v914 k0_t3) a + S1x1x16.size a ≤ S256x16x24.size a) ∧
  (∀ k0_t3 : Fin (k0_t3_loop v914).trips, ∀ a, (k0_off52 v914 k0_t3) a + S1x1x16.size a ≤ S256x16x24.size a) ∧
  (∀ k0_t3 : Fin (k0_t3_loop v914).trips, ∀ a, (k0_off53 v914 k0_t3) a + S1x1x16.size a ≤ S256x16x24.size a) ∧
  (∀ k0_t3 : Fin (k0_t3_loop v914).trips, ∀ a, (k0_off54 v914 k0_t3) a + S1x1x16.size a ≤ S256x16x24.size a) ∧
  (∀ k0_t3 : Fin (k0_t3_loop v914).trips, ∀ a, (k0_off55 v914 k0_t3) a + S1x1x16.size a ≤ S256x16x24.size a) ∧
  (∀ k0_t3 : Fin (k0_t3_loop v914).trips, ∀ a, (k0_off56 v914 k0_t3) a + S1x1x16.size a ≤ S256x16x24.size a) ∧
  (∀ k0_t3 : Fin (k0_t3_loop v914).trips, ∀ a, (k0_off57 v914 k0_t3) a + S1x1x16.size a ≤ S256x16x24.size a) ∧
  (∀ k0_t3 : Fin (k0_t3_loop v914).trips, ∀ a, (k0_off58 v914 k0_t3) a + S1x1x16.size a ≤ S256x16x24.size a) ∧
  (∀ k0_t3 : Fin (k0_t3_loop v914).trips, ∀ a, (k0_off59 v914 k0_t3) a + S1x1x16.size a ≤ S256x16x24.size a) ∧
  (∀ k0_t3 : Fin (k0_t3_loop v914).trips, ∀ a, (k0_off60 v914 k0_t3) a + S1x1x16.size a ≤ S256x16x24.size a) ∧
  (∀ k0_t3 : Fin (k0_t3_loop v914).trips, ∀ a, (k0_off61 v914 k0_t3) a + S1x1x16.size a ≤ S256x16x24.size a) ∧
  (∀ k0_t3 : Fin (k0_t3_loop v914).trips, ∀ a, (k0_off62 v914 k0_t3) a + S1x1x16.size a ≤ S256x16x24.size a) ∧
  (∀ k0_t3 : Fin (k0_t3_loop v914).trips, ∀ a, (k0_off63 v914 k0_t3) a + S1x1x16.size a ≤ S256x16x24.size a) ∧
  (∀ k0_t3 : Fin (k0_t3_loop v914).trips, ∀ a, (k0_off64 v914 k0_t3) a + S1x1x16.size a ≤ S256x16x24.size a) ∧
  (∀ k0_t3 : Fin (k0_t3_loop v914).trips, ∀ a, (k0_off65 v914 k0_t3) a + S1x1x16.size a ≤ S256x16x24.size a)
def k0_chk1_2 (v914 : BitVec 32) : Prop :=
  (∀ k0_t3 : Fin (k0_t3_loop v914).trips, ∀ a, (k0_off66 v914 k0_t3) a + S1x1x16.size a ≤ S256x16x24.size a) ∧
  (∀ k0_t3 : Fin (k0_t3_loop v914).trips, ∀ a, (k0_off67 v914 k0_t3) a + S1x1x16.size a ≤ S256x16x24.size a) ∧
  (∀ k0_t3 : Fin (k0_t3_loop v914).trips, ∀ a, (k0_off68 v914 k0_t3) a + S1x1x16.size a ≤ S256x16x24.size a)
def k0_chk1 (v914 : BitVec 32) : Prop :=
  k0_chk1_0 v914 ∧
  k0_chk1_1 v914 ∧
  k0_chk1_2 v914
theorem k0_mult1_dvd : ∀ (v914 : BitVec 32) (k0_hw1 : k0_chk1 v914), 8 ∣ (k0_mult1 v914).toNat := fun v914 k0_hw1 => k0_hw1.1.1
theorem k0_t2_ok : ∀ (v914 : BitVec 32) (k0_hw1 : k0_chk1 v914), (k0_t2_loop v914).OK := fun v914 k0_hw1 => k0_hw1.1.2.1
theorem k0_off5_inb : ∀ (v914 : BitVec 32) (k0_hw1 : k0_chk1 v914) (k0_t2 : Fin (k0_t2_loop v914).trips), ∀ a, (k0_off5 v914 k0_t2) a + S1x1x16.size a ≤ S256x16x24.size a := fun v914 k0_hw1 k0_t2 => k0_hw1.1.2.2.1 k0_t2
theorem k0_off6_inb : ∀ (v914 : BitVec 32) (k0_hw1 : k0_chk1 v914) (k0_t2 : Fin (k0_t2_loop v914).trips), ∀ a, (k0_off6 v914 k0_t2) a + S1x1x16.size a ≤ S256x16x24.size a := fun v914 k0_hw1 k0_t2 => k0_hw1.1.2.2.2.1 k0_t2
theorem k0_off7_inb : ∀ (v914 : BitVec 32) (k0_hw1 : k0_chk1 v914) (k0_t2 : Fin (k0_t2_loop v914).trips), ∀ a, (k0_off7 v914 k0_t2) a + S1x1x16.size a ≤ S256x16x24.size a := fun v914 k0_hw1 k0_t2 => k0_hw1.1.2.2.2.2.1 k0_t2
theorem k0_off8_inb : ∀ (v914 : BitVec 32) (k0_hw1 : k0_chk1 v914) (k0_t2 : Fin (k0_t2_loop v914).trips), ∀ a, (k0_off8 v914 k0_t2) a + S1x1x16.size a ≤ S256x16x24.size a := fun v914 k0_hw1 k0_t2 => k0_hw1.1.2.2.2.2.2.1 k0_t2
theorem k0_off9_inb : ∀ (v914 : BitVec 32) (k0_hw1 : k0_chk1 v914) (k0_t2 : Fin (k0_t2_loop v914).trips), ∀ a, (k0_off9 v914 k0_t2) a + S1x1x16.size a ≤ S256x16x24.size a := fun v914 k0_hw1 k0_t2 => k0_hw1.1.2.2.2.2.2.2.1 k0_t2
theorem k0_off10_inb : ∀ (v914 : BitVec 32) (k0_hw1 : k0_chk1 v914) (k0_t2 : Fin (k0_t2_loop v914).trips), ∀ a, (k0_off10 v914 k0_t2) a + S1x1x16.size a ≤ S256x16x24.size a := fun v914 k0_hw1 k0_t2 => k0_hw1.1.2.2.2.2.2.2.2.1 k0_t2
theorem k0_off11_inb : ∀ (v914 : BitVec 32) (k0_hw1 : k0_chk1 v914) (k0_t2 : Fin (k0_t2_loop v914).trips), ∀ a, (k0_off11 v914 k0_t2) a + S1x1x16.size a ≤ S256x16x24.size a := fun v914 k0_hw1 k0_t2 => k0_hw1.1.2.2.2.2.2.2.2.2.1 k0_t2
theorem k0_off12_inb : ∀ (v914 : BitVec 32) (k0_hw1 : k0_chk1 v914) (k0_t2 : Fin (k0_t2_loop v914).trips), ∀ a, (k0_off12 v914 k0_t2) a + S1x1x16.size a ≤ S256x16x24.size a := fun v914 k0_hw1 k0_t2 => k0_hw1.1.2.2.2.2.2.2.2.2.2.1 k0_t2
theorem k0_off13_inb : ∀ (v914 : BitVec 32) (k0_hw1 : k0_chk1 v914) (k0_t2 : Fin (k0_t2_loop v914).trips), ∀ a, (k0_off13 v914 k0_t2) a + S1x1x16.size a ≤ S256x16x24.size a := fun v914 k0_hw1 k0_t2 => k0_hw1.1.2.2.2.2.2.2.2.2.2.2.1 k0_t2
theorem k0_off14_inb : ∀ (v914 : BitVec 32) (k0_hw1 : k0_chk1 v914) (k0_t2 : Fin (k0_t2_loop v914).trips), ∀ a, (k0_off14 v914 k0_t2) a + S1x1x16.size a ≤ S256x16x24.size a := fun v914 k0_hw1 k0_t2 => k0_hw1.1.2.2.2.2.2.2.2.2.2.2.2.1 k0_t2
theorem k0_off15_inb : ∀ (v914 : BitVec 32) (k0_hw1 : k0_chk1 v914) (k0_t2 : Fin (k0_t2_loop v914).trips), ∀ a, (k0_off15 v914 k0_t2) a + S1x1x16.size a ≤ S256x16x24.size a := fun v914 k0_hw1 k0_t2 => k0_hw1.1.2.2.2.2.2.2.2.2.2.2.2.2.1 k0_t2
theorem k0_off16_inb : ∀ (v914 : BitVec 32) (k0_hw1 : k0_chk1 v914) (k0_t2 : Fin (k0_t2_loop v914).trips), ∀ a, (k0_off16 v914 k0_t2) a + S1x1x16.size a ≤ S256x16x24.size a := fun v914 k0_hw1 k0_t2 => k0_hw1.1.2.2.2.2.2.2.2.2.2.2.2.2.2.1 k0_t2
theorem k0_off17_inb : ∀ (v914 : BitVec 32) (k0_hw1 : k0_chk1 v914) (k0_t2 : Fin (k0_t2_loop v914).trips), ∀ a, (k0_off17 v914 k0_t2) a + S1x1x16.size a ≤ S256x16x24.size a := fun v914 k0_hw1 k0_t2 => k0_hw1.1.2.2.2.2.2.2.2.2.2.2.2.2.2.2.1 k0_t2
theorem k0_off18_inb : ∀ (v914 : BitVec 32) (k0_hw1 : k0_chk1 v914) (k0_t2 : Fin (k0_t2_loop v914).trips), ∀ a, (k0_off18 v914 k0_t2) a + S1x1x16.size a ≤ S256x16x24.size a := fun v914 k0_hw1 k0_t2 => k0_hw1.1.2.2.2.2.2.2.2.2.2.2.2.2.2.2.2.1 k0_t2
theorem k0_off19_inb : ∀ (v914 : BitVec 32) (k0_hw1 : k0_chk1 v914) (k0_t2 : Fin (k0_t2_loop v914).trips), ∀ a, (k0_off19 v914 k0_t2) a + S1x1x16.size a ≤ S256x16x24.size a := fun v914 k0_hw1 k0_t2 => k0_hw1.1.2.2.2.2.2.2.2.2.2.2.2.2.2.2.2.2.1 k0_t2
theorem k0_off20_inb : ∀ (v914 : BitVec 32) (k0_hw1 : k0_chk1 v914) (k0_t2 : Fin (k0_t2_loop v914).trips), ∀ a, (k0_off20 v914 k0_t2) a + S1x1x16.size a ≤ S256x16x24.size a := fun v914 k0_hw1 k0_t2 => k0_hw1.1.2.2.2.2.2.2.2.2.2.2.2.2.2.2.2.2.2.1 k0_t2
theorem k0_off21_inb : ∀ (v914 : BitVec 32) (k0_hw1 : k0_chk1 v914) (k0_t2 : Fin (k0_t2_loop v914).trips), ∀ a, (k0_off21 v914 k0_t2) a + S1x1x16.size a ≤ S256x16x24.size a := fun v914 k0_hw1 k0_t2 => k0_hw1.1.2.2.2.2.2.2.2.2.2.2.2.2.2.2.2.2.2.2.1 k0_t2
theorem k0_off22_inb : ∀ (v914 : BitVec 32) (k0_hw1 : k0_chk1 v914) (k0_t2 : Fin (k0_t2_loop v914).trips), ∀ a, (k0_off22 v914 k0_t2) a + S1x1x16.size a ≤ S256x16x24.size a := fun v914 k0_hw1 k0_t2 => k0_hw1.1.2.2.2.2.2.2.2.2.2.2.2.2.2.2.2.2.2.2.2.1 k0_t2
theorem k0_off23_inb : ∀ (v914 : BitVec 32) (k0_hw1 : k0_chk1 v914) (k0_t2 : Fin (k0_t2_loop v914).trips), ∀ a, (k0_off23 v914 k0_t2) a + S1x1x16.size a ≤ S256x16x24.size a := fun v914 k0_hw1 k0_t2 => k0_hw1.1.2.2.2.2.2.2.2.2.2.2.2.2.2.2.2.2.2.2.2.2.1 k0_t2
theorem k0_off24_inb : ∀ (v914 : BitVec 32) (k0_hw1 : k0_chk1 v914) (k0_t2 : Fin (k0_t2_loop v914).trips), ∀ a, (k0_off24 v914 k0_t2) a + S1x1x16.size a ≤ S256x16x24.size a := fun v914 k0_hw1 k0_t2 => k0_hw1.1.2.2.2.2.2.2.2.2.2.2.2.2.2.2.2.2.2.2.2.2.2.1 k0_t2
theorem k0_off25_inb : ∀ (v914 : BitVec 32) (k0_hw1 : k0_chk1 v914) (k0_t2 : Fin (k0_t2_loop v914).trips), ∀ a, (k0_off25 v914 k0_t2) a + S1x1x16.size a ≤ S256x16x24.size a := fun v914 k0_hw1 k0_t2 => k0_hw1.1.2.2.2.2.2.2.2.2.2.2.2.2.2.2.2.2.2.2.2.2.2.2.1 k0_t2
theorem k0_off26_inb : ∀ (v914 : BitVec 32) (k0_hw1 : k0_chk1 v914) (k0_t2 : Fin (k0_t2_loop v914).trips), ∀ a, (k0_off26 v914 k0_t2) a + S1x1x16.size a ≤ S256x16x24.size a := fun v914 k0_hw1 k0_t2 => k0_hw1.1.2.2.2.2.2.2.2.2.2.2.2.2.2.2.2.2.2.2.2.2.2.2.2.1 k0_t2
theorem k0_off27_inb : ∀ (v914 : BitVec 32) (k0_hw1 : k0_chk1 v914) (k0_t2 : Fin (k0_t2_loop v914).trips), ∀ a, (k0_off27 v914 k0_t2) a + S1x1x16.size a ≤ S256x16x24.size a := fun v914 k0_hw1 k0_t2 => k0_hw1.1.2.2.2.2.2.2.2.2.2.2.2.2.2.2.2.2.2.2.2.2.2.2.2.2.1 k0_t2
theorem k0_off28_inb : ∀ (v914 : BitVec 32) (k0_hw1 : k0_chk1 v914) (k0_t2 : Fin (k0_t2_loop v914).trips), ∀ a, (k0_off28 v914 k0_t2) a + S1x1x16.size a ≤ S256x16x24.size a := fun v914 k0_hw1 k0_t2 => k0_hw1.1.2.2.2.2.2.2.2.2.2.2.2.2.2.2.2.2.2.2.2.2.2.2.2.2.2.1 k0_t2
theorem k0_off29_inb : ∀ (v914 : BitVec 32) (k0_hw1 : k0_chk1 v914) (k0_t2 : Fin (k0_t2_loop v914).trips), ∀ a, (k0_off29 v914 k0_t2) a + S1x1x16.size a ≤ S256x16x24.size a := fun v914 k0_hw1 k0_t2 => k0_hw1.1.2.2.2.2.2.2.2.2.2.2.2.2.2.2.2.2.2.2.2.2.2.2.2.2.2.2.1 k0_t2
theorem k0_off30_inb : ∀ (v914 : BitVec 32) (k0_hw1 : k0_chk1 v914) (k0_t2 : Fin (k0_t2_loop v914).trips), ∀ a, (k0_off30 v914 k0_t2) a + S1x1x16.size a ≤ S256x16x24.size a := fun v914 k0_hw1 k0_t2 => k0_hw1.1.2.2.2.2.2.2.2.2.2.2.2.2.2.2.2.2.2.2.2.2.2.2.2.2.2.2.2.1 k0_t2
theorem k0_off31_inb : ∀ (v914 : BitVec 32) (k0_hw1 : k0_chk1 v914) (k0_t2 : Fin (k0_t2_loop v914).trips), ∀ a, (k0_off31 v914 k0_t2) a + S1x1x16.size a ≤ S256x16x24.size a := fun v914 k0_hw1 k0_t2 => k0_hw1.1.2.2.2.2.2.2.2.2.2.2.2.2.2.2.2.2.2.2.2.2.2.2.2.2.2.2.2.2.1 k0_t2
theorem k0_off32_inb : ∀ (v914 : BitVec 32) (k0_hw1 : k0_chk1 v914) (k0_t2 : Fin (k0_t2_loop v914).trips), ∀ a, (k0_off32 v914 k0_t2) a + S1x1x16.size a ≤ S256x16x24.size a := fun v914 k0_hw1 k0_t2 => k0_hw1.1.2.2.2.2.2.2.2.2.2.2.2.2.2.2.2.2.2.2.2.2.2.2.2.2.2.2.2.2.2.1 k0_t2
theorem k0_off33_inb : ∀ (v914 : BitVec 32) (k0_hw1 : k0_chk1 v914) (k0_t2 : Fin (k0_t2_loop v914).trips), ∀ a, (k0_off33 v914 k0_t2) a + S1x1x16.size a ≤ S256x16x24.size a := fun v914 k0_hw1 k0_t2 => k0_hw1.1.2.2.2.2.2.2.2.2.2.2.2.2.2.2.2.2.2.2.2.2.2.2.2.2.2.2.2.2.2.2.1 k0_t2
theorem k0_off34_inb : ∀ (v914 : BitVec 32) (k0_hw1 : k0_chk1 v914) (k0_t2 : Fin (k0_t2_loop v914).trips), ∀ a, (k0_off34 v914 k0_t2) a + S1x1x16.size a ≤ S256x16x24.size a := fun v914 k0_hw1 k0_t2 => k0_hw1.1.2.2.2.2.2.2.2.2.2.2.2.2.2.2.2.2.2.2.2.2.2.2.2.2.2.2.2.2.2.2.2 k0_t2
theorem k0_off35_inb : ∀ (v914 : BitVec 32) (k0_hw1 : k0_chk1 v914) (k0_t2 : Fin (k0_t2_loop v914).trips), ∀ a, (k0_off35 v914 k0_t2) a + S1x1x16.size a ≤ S256x16x24.size a := fun v914 k0_hw1 k0_t2 => k0_hw1.2.1.1 k0_t2
theorem k0_off36_inb : ∀ (v914 : BitVec 32) (k0_hw1 : k0_chk1 v914) (k0_t2 : Fin (k0_t2_loop v914).trips), ∀ a, (k0_off36 v914 k0_t2) a + S1x1x16.size a ≤ S256x16x24.size a := fun v914 k0_hw1 k0_t2 => k0_hw1.2.1.2.1 k0_t2
theorem k0_t3_ok : ∀ (v914 : BitVec 32) (k0_hw1 : k0_chk1 v914), (k0_t3_loop v914).OK := fun v914 k0_hw1 => k0_hw1.2.1.2.2.1
theorem k0_off37_inb : ∀ (v914 : BitVec 32) (k0_hw1 : k0_chk1 v914) (k0_t3 : Fin (k0_t3_loop v914).trips), ∀ a, (k0_off37 v914 k0_t3) a + S1x1x16.size a ≤ S256x16x24.size a := fun v914 k0_hw1 k0_t3 => k0_hw1.2.1.2.2.2.1 k0_t3
theorem k0_off38_inb : ∀ (v914 : BitVec 32) (k0_hw1 : k0_chk1 v914) (k0_t3 : Fin (k0_t3_loop v914).trips), ∀ a, (k0_off38 v914 k0_t3) a + S1x1x16.size a ≤ S256x16x24.size a := fun v914 k0_hw1 k0_t3 => k0_hw1.2.1.2.2.2.2.1 k0_t3
theorem k0_off39_inb : ∀ (v914 : BitVec 32) (k0_hw1 : k0_chk1 v914) (k0_t3 : Fin (k0_t3_loop v914).trips), ∀ a, (k0_off39 v914 k0_t3) a + S1x1x16.size a ≤ S256x16x24.size a := fun v914 k0_hw1 k0_t3 => k0_hw1.2.1.2.2.2.2.2.1 k0_t3
theorem k0_off40_inb : ∀ (v914 : BitVec 32) (k0_hw1 : k0_chk1 v914) (k0_t3 : Fin (k0_t3_loop v914).trips), ∀ a, (k0_off40 v914 k0_t3) a + S1x1x16.size a ≤ S256x16x24.size a := fun v914 k0_hw1 k0_t3 => k0_hw1.2.1.2.2.2.2.2.2.1 k0_t3
theorem k0_off41_inb : ∀ (v914 : BitVec 32) (k0_hw1 : k0_chk1 v914) (k0_t3 : Fin (k0_t3_loop v914).trips), ∀ a, (k0_off41 v914 k0_t3) a + S1x1x16.size a ≤ S256x16x24.size a := fun v914 k0_hw1 k0_t3 => k0_hw1.2.1.2.2.2.2.2.2.2.1 k0_t3
theorem k0_off42_inb : ∀ (v914 : BitVec 32) (k0_hw1 : k0_chk1 v914) (k0_t3 : Fin (k0_t3_loop v914).trips), ∀ a, (k0_off42 v914 k0_t3) a + S1x1x16.size a ≤ S256x16x24.size a := fun v914 k0_hw1 k0_t3 => k0_hw1.2.1.2.2.2.2.2.2.2.2.1 k0_t3
theorem k0_off43_inb : ∀ (v914 : BitVec 32) (k0_hw1 : k0_chk1 v914) (k0_t3 : Fin (k0_t3_loop v914).trips), ∀ a, (k0_off43 v914 k0_t3) a + S1x1x16.size a ≤ S256x16x24.size a := fun v914 k0_hw1 k0_t3 => k0_hw1.2.1.2.2.2.2.2.2.2.2.2.1 k0_t3
theorem k0_off44_inb : ∀ (v914 : BitVec 32) (k0_hw1 : k0_chk1 v914) (k0_t3 : Fin (k0_t3_loop v914).trips), ∀ a, (k0_off44 v914 k0_t3) a + S1x1x16.size a ≤ S256x16x24.size a := fun v914 k0_hw1 k0_t3 => k0_hw1.2.1.2.2.2.2.2.2.2.2.2.2.1 k0_t3
theorem k0_off45_inb : ∀ (v914 : BitVec 32) (k0_hw1 : k0_chk1 v914) (k0_t3 : Fin (k0_t3_loop v914).trips), ∀ a, (k0_off45 v914 k0_t3) a + S1x1x16.size a ≤ S256x16x24.size a := fun v914 k0_hw1 k0_t3 => k0_hw1.2.1.2.2.2.2.2.2.2.2.2.2.2.1 k0_t3
theorem k0_off46_inb : ∀ (v914 : BitVec 32) (k0_hw1 : k0_chk1 v914) (k0_t3 : Fin (k0_t3_loop v914).trips), ∀ a, (k0_off46 v914 k0_t3) a + S1x1x16.size a ≤ S256x16x24.size a := fun v914 k0_hw1 k0_t3 => k0_hw1.2.1.2.2.2.2.2.2.2.2.2.2.2.2.1 k0_t3
theorem k0_off47_inb : ∀ (v914 : BitVec 32) (k0_hw1 : k0_chk1 v914) (k0_t3 : Fin (k0_t3_loop v914).trips), ∀ a, (k0_off47 v914 k0_t3) a + S1x1x16.size a ≤ S256x16x24.size a := fun v914 k0_hw1 k0_t3 => k0_hw1.2.1.2.2.2.2.2.2.2.2.2.2.2.2.2.1 k0_t3
theorem k0_off48_inb : ∀ (v914 : BitVec 32) (k0_hw1 : k0_chk1 v914) (k0_t3 : Fin (k0_t3_loop v914).trips), ∀ a, (k0_off48 v914 k0_t3) a + S1x1x16.size a ≤ S256x16x24.size a := fun v914 k0_hw1 k0_t3 => k0_hw1.2.1.2.2.2.2.2.2.2.2.2.2.2.2.2.2.1 k0_t3
theorem k0_off49_inb : ∀ (v914 : BitVec 32) (k0_hw1 : k0_chk1 v914) (k0_t3 : Fin (k0_t3_loop v914).trips), ∀ a, (k0_off49 v914 k0_t3) a + S1x1x16.size a ≤ S256x16x24.size a := fun v914 k0_hw1 k0_t3 => k0_hw1.2.1.2.2.2.2.2.2.2.2.2.2.2.2.2.2.2.1 k0_t3
theorem k0_off50_inb : ∀ (v914 : BitVec 32) (k0_hw1 : k0_chk1 v914) (k0_t3 : Fin (k0_t3_loop v914).trips), ∀ a, (k0_off50 v914 k0_t3) a + S1x1x16.size a ≤ S256x16x24.size a := fun v914 k0_hw1 k0_t3 => k0_hw1.2.1.2.2.2.2.2.2.2.2.2.2.2.2.2.2.2.2.1 k0_t3
theorem k0_off51_inb : ∀ (v914 : BitVec 32) (k0_hw1 : k0_chk1 v914) (k0_t3 : Fin (k0_t3_loop v914).trips), ∀ a, (k0_off51 v914 k0_t3) a + S1x1x16.size a ≤ S256x16x24.size a := fun v914 k0_hw1 k0_t3 => k0_hw1.2.1.2.2.2.2.2.2.2.2.2.2.2.2.2.2.2.2.2.1 k0_t3
theorem k0_off52_inb : ∀ (v914 : BitVec 32) (k0_hw1 : k0_chk1 v914) (k0_t3 : Fin (k0_t3_loop v914).trips), ∀ a, (k0_off52 v914 k0_t3) a + S1x1x16.size a ≤ S256x16x24.size a := fun v914 k0_hw1 k0_t3 => k0_hw1.2.1.2.2.2.2.2.2.2.2.2.2.2.2.2.2.2.2.2.2.1 k0_t3
theorem k0_off53_inb : ∀ (v914 : BitVec 32) (k0_hw1 : k0_chk1 v914) (k0_t3 : Fin (k0_t3_loop v914).trips), ∀ a, (k0_off53 v914 k0_t3) a + S1x1x16.size a ≤ S256x16x24.size a := fun v914 k0_hw1 k0_t3 => k0_hw1.2.1.2.2.2.2.2.2.2.2.2.2.2.2.2.2.2.2.2.2.2.1 k0_t3
theorem k0_off54_inb : ∀ (v914 : BitVec 32) (k0_hw1 : k0_chk1 v914) (k0_t3 : Fin (k0_t3_loop v914).trips), ∀ a, (k0_off54 v914 k0_t3) a + S1x1x16.size a ≤ S256x16x24.size a := fun v914 k0_hw1 k0_t3 => k0_hw1.2.1.2.2.2.2.2.2.2.2.2.2.2.2.2.2.2.2.2.2.2.2.1 k0_t3
theorem k0_off55_inb : ∀ (v914 : BitVec 32) (k0_hw1 : k0_chk1 v914) (k0_t3 : Fin (k0_t3_loop v914).trips), ∀ a, (k0_off55 v914 k0_t3) a + S1x1x16.size a ≤ S256x16x24.size a := fun v914 k0_hw1 k0_t3 => k0_hw1.2.1.2.2.2.2.2.2.2.2.2.2.2.2.2.2.2.2.2.2.2.2.2.1 k0_t3
theorem k0_off56_inb : ∀ (v914 : BitVec 32) (k0_hw1 : k0_chk1 v914) (k0_t3 : Fin (k0_t3_loop v914).trips), ∀ a, (k0_off56 v914 k0_t3) a + S1x1x16.size a ≤ S256x16x24.size a := fun v914 k0_hw1 k0_t3 => k0_hw1.2.1.2.2.2.2.2.2.2.2.2.2.2.2.2.2.2.2.2.2.2.2.2.2.1 k0_t3
theorem k0_off57_inb : ∀ (v914 : BitVec 32) (k0_hw1 : k0_chk1 v914) (k0_t3 : Fin (k0_t3_loop v914).trips), ∀ a, (k0_off57 v914 k0_t3) a + S1x1x16.size a ≤ S256x16x24.size a := fun v914 k0_hw1 k0_t3 => k0_hw1.2.1.2.2.2.2.2.2.2.2.2.2.2.2.2.2.2.2.2.2.2.2.2.2.2.1 k0_t3
theorem k0_off58_inb : ∀ (v914 : BitVec 32) (k0_hw1 : k0_chk1 v914) (k0_t3 : Fin (k0_t3_loop v914).trips), ∀ a, (k0_off58 v914 k0_t3) a + S1x1x16.size a ≤ S256x16x24.size a := fun v914 k0_hw1 k0_t3 => k0_hw1.2.1.2.2.2.2.2.2.2.2.2.2.2.2.2.2.2.2.2.2.2.2.2.2.2.2.1 k0_t3
theorem k0_off59_inb : ∀ (v914 : BitVec 32) (k0_hw1 : k0_chk1 v914) (k0_t3 : Fin (k0_t3_loop v914).trips), ∀ a, (k0_off59 v914 k0_t3) a + S1x1x16.size a ≤ S256x16x24.size a := fun v914 k0_hw1 k0_t3 => k0_hw1.2.1.2.2.2.2.2.2.2.2.2.2.2.2.2.2.2.2.2.2.2.2.2.2.2.2.2.1 k0_t3
theorem k0_off60_inb : ∀ (v914 : BitVec 32) (k0_hw1 : k0_chk1 v914) (k0_t3 : Fin (k0_t3_loop v914).trips), ∀ a, (k0_off60 v914 k0_t3) a + S1x1x16.size a ≤ S256x16x24.size a := fun v914 k0_hw1 k0_t3 => k0_hw1.2.1.2.2.2.2.2.2.2.2.2.2.2.2.2.2.2.2.2.2.2.2.2.2.2.2.2.2.1 k0_t3
theorem k0_off61_inb : ∀ (v914 : BitVec 32) (k0_hw1 : k0_chk1 v914) (k0_t3 : Fin (k0_t3_loop v914).trips), ∀ a, (k0_off61 v914 k0_t3) a + S1x1x16.size a ≤ S256x16x24.size a := fun v914 k0_hw1 k0_t3 => k0_hw1.2.1.2.2.2.2.2.2.2.2.2.2.2.2.2.2.2.2.2.2.2.2.2.2.2.2.2.2.2.1 k0_t3
theorem k0_off62_inb : ∀ (v914 : BitVec 32) (k0_hw1 : k0_chk1 v914) (k0_t3 : Fin (k0_t3_loop v914).trips), ∀ a, (k0_off62 v914 k0_t3) a + S1x1x16.size a ≤ S256x16x24.size a := fun v914 k0_hw1 k0_t3 => k0_hw1.2.1.2.2.2.2.2.2.2.2.2.2.2.2.2.2.2.2.2.2.2.2.2.2.2.2.2.2.2.2.1 k0_t3
theorem k0_off63_inb : ∀ (v914 : BitVec 32) (k0_hw1 : k0_chk1 v914) (k0_t3 : Fin (k0_t3_loop v914).trips), ∀ a, (k0_off63 v914 k0_t3) a + S1x1x16.size a ≤ S256x16x24.size a := fun v914 k0_hw1 k0_t3 => k0_hw1.2.1.2.2.2.2.2.2.2.2.2.2.2.2.2.2.2.2.2.2.2.2.2.2.2.2.2.2.2.2.2.1 k0_t3
theorem k0_off64_inb : ∀ (v914 : BitVec 32) (k0_hw1 : k0_chk1 v914) (k0_t3 : Fin (k0_t3_loop v914).trips), ∀ a, (k0_off64 v914 k0_t3) a + S1x1x16.size a ≤ S256x16x24.size a := fun v914 k0_hw1 k0_t3 => k0_hw1.2.1.2.2.2.2.2.2.2.2.2.2.2.2.2.2.2.2.2.2.2.2.2.2.2.2.2.2.2.2.2.2.1 k0_t3
theorem k0_off65_inb : ∀ (v914 : BitVec 32) (k0_hw1 : k0_chk1 v914) (k0_t3 : Fin (k0_t3_loop v914).trips), ∀ a, (k0_off65 v914 k0_t3) a + S1x1x16.size a ≤ S256x16x24.size a := fun v914 k0_hw1 k0_t3 => k0_hw1.2.1.2.2.2.2.2.2.2.2.2.2.2.2.2.2.2.2.2.2.2.2.2.2.2.2.2.2.2.2.2.2.2 k0_t3
theorem k0_off66_inb : ∀ (v914 : BitVec 32) (k0_hw1 : k0_chk1 v914) (k0_t3 : Fin (k0_t3_loop v914).trips), ∀ a, (k0_off66 v914 k0_t3) a + S1x1x16.size a ≤ S256x16x24.size a := fun v914 k0_hw1 k0_t3 => k0_hw1.2.2.1 k0_t3
theorem k0_off67_inb : ∀ (v914 : BitVec 32) (k0_hw1 : k0_chk1 v914) (k0_t3 : Fin (k0_t3_loop v914).trips), ∀ a, (k0_off67 v914 k0_t3) a + S1x1x16.size a ≤ S256x16x24.size a := fun v914 k0_hw1 k0_t3 => k0_hw1.2.2.2.1 k0_t3
theorem k0_off68_inb : ∀ (v914 : BitVec 32) (k0_hw1 : k0_chk1 v914) (k0_t3 : Fin (k0_t3_loop v914).trips), ∀ a, (k0_off68 v914 k0_t3) a + S1x1x16.size a ≤ S256x16x24.size a := fun v914 k0_hw1 k0_t3 => k0_hw1.2.2.2.2 k0_t3

def k0_off69 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg14 : BitVec 32 := Scf.iv c0_i32_1 c1_i32 k0_t1
  let v950 : BitVec 32 := Scalar.addi v2 arg14
  let c0_i32_360_r3 : BitVec 32 := 0#32
  let c0_i32_361_r3 : BitVec 32 := 0#32
  let c0_i32_362_r3 : BitVec 32 := 0#32
  ![v950.toNat, 0, 0, 0]
def k0_off70 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c4_i32 : BitVec 32 := 4#32
  let v899 : BitVec 32 := Scalar.muli v2 c4_i32
  ![v899.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_335 : BitVec 32 := 0#32
  let v900 : BitVec 1 := Scalar.cmpi .eq v1 c0_i32_335
  let v901 : BitVec 32 := Scalar.extui v900
  let c0_i32_336 : BitVec 32 := 0#32
  let v902 : BitVec 1 := Scalar.cmpi .ne v901 c0_i32_336
  v902

@[reducible] def k0_t4_loop : Scf.Loop 32 :=
  let c0_i32_339 : BitVec 32 := 0#32
  let c10_i32 : BitVec 32 := 10#32
  let v905 : BitVec 32 := Scalar.addi c0_i32_339 c10_i32
  let c1_i32_340 : BitVec 32 := 1#32
  ⟨c0_i32_339, v905, c1_i32_340⟩
def k0_off71 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk3 (i : grid0.Coords) (arg15 : BitVec 32) (arg16 : BitVec 32) : Prop :=
  (∀ (k0_h1 : k0_cond1 i = 1#1), ∀ a, (k0_off71 arg15 arg16) a + S16.size a ≤ S1040.size a)
theorem k0_off71_inb : ∀ (i : grid0.Coords) (arg15 : BitVec 32) (arg16 : BitVec 32) (k0_hw3 : k0_chk3 i arg15 arg16), ∀ (k0_h1 : k0_cond1 i = 1#1), ∀ a, (k0_off71 arg15 arg16) a + S16.size a ≤ S1040.size a := fun i arg15 arg16 k0_hw3 k0_h1 => k0_hw3 k0_h1

@[reducible] def k0_t5_loop : Scf.Loop 32 :=
  let c0_i32_346 : BitVec 32 := 0#32
  let c10_i32_347 : BitVec 32 := 10#32
  let v912 : BitVec 32 := Scalar.addi c0_i32_346 c10_i32_347
  let c1_i32_348 : BitVec 32 := 1#32
  ⟨c0_i32_346, v912, c1_i32_348⟩
def k0_off72 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk4 (i : grid0.Coords) (arg15 : BitVec 32) (arg16 : BitVec 32) : Prop :=
  (∀ (k0_h1 : k0_cond1 i = 1#1), ∀ a, (k0_off72 arg15 arg16) a + S16.size a ≤ S1040.size a)
theorem k0_off72_inb : ∀ (i : grid0.Coords) (arg15 : BitVec 32) (arg16 : BitVec 32) (k0_hw4 : k0_chk4 i arg15 arg16), ∀ (k0_h1 : k0_cond1 i = 1#1), ∀ a, (k0_off72 arg15 arg16) a + S16.size a ≤ S1040.size a := fun i arg15 arg16 k0_hw4 k0_h1 => k0_hw4 k0_h1

@[reducible] def k0_t6_loop : Scf.Loop 32 :=
  let c0_i32_353 : BitVec 32 := 0#32
  let c10_i32_354 : BitVec 32 := 10#32
  let v919 : BitVec 32 := Scalar.addi c0_i32_353 c10_i32_354
  let c1_i32_355 : BitVec 32 := 1#32
  ⟨c0_i32_353, v919, c1_i32_355⟩
def k0_off73 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk5 (i : grid0.Coords) (arg15 : BitVec 32) (arg16 : BitVec 32) : Prop :=
  (∀ (k0_h1 : k0_cond1 i = 1#1), ∀ a, (k0_off73 arg15 arg16) a + S16.size a ≤ S1040.size a)
theorem k0_off73_inb : ∀ (i : grid0.Coords) (arg15 : BitVec 32) (arg16 : BitVec 32) (k0_hw5 : k0_chk5 i arg15 arg16), ∀ (k0_h1 : k0_cond1 i = 1#1), ∀ a, (k0_off73 arg15 arg16) a + S16.size a ≤ S1040.size a := fun i arg15 arg16 k0_hw5 k0_h1 => k0_hw5 k0_h1

@[reducible] def k0_t7_loop : Scf.Loop 32 :=
  let c0_i32_360 : BitVec 32 := 0#32
  let c10_i32_361 : BitVec 32 := 10#32
  let v926 : BitVec 32 := Scalar.addi c0_i32_360 c10_i32_361
  let c1_i32_362 : BitVec 32 := 1#32
  ⟨c0_i32_360, v926, c1_i32_362⟩
def k0_off74 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk6 (i : grid0.Coords) (arg15 : BitVec 32) (arg16 : BitVec 32) : Prop :=
  (∀ (k0_h1 : k0_cond1 i = 1#1), ∀ a, (k0_off74 arg15 arg16) a + S16.size a ≤ S1040.size a)
theorem k0_off74_inb : ∀ (i : grid0.Coords) (arg15 : BitVec 32) (arg16 : BitVec 32) (k0_hw6 : k0_chk6 i arg15 arg16), ∀ (k0_h1 : k0_cond1 i = 1#1), ∀ a, (k0_off74 arg15 arg16) a + S16.size a ≤ S1040.size a := fun i arg15 arg16 k0_hw6 k0_h1 => k0_hw6 k0_h1

@[reducible] def k0_t8_loop : Scf.Loop 32 :=
  let c0_i32_367 : BitVec 32 := 0#32
  let c10_i32_368 : BitVec 32 := 10#32
  let v933 : BitVec 32 := Scalar.addi c0_i32_367 c10_i32_368
  let c1_i32_369 : BitVec 32 := 1#32
  ⟨c0_i32_367, v933, c1_i32_369⟩
def k0_off75 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk7 (i : grid0.Coords) (arg15 : BitVec 32) (arg16 : BitVec 32) : Prop :=
  (∀ (k0_h1 : k0_cond1 i = 1#1), ∀ a, (k0_off75 arg15 arg16) a + S16.size a ≤ S1040.size a)
theorem k0_off75_inb : ∀ (i : grid0.Coords) (arg15 : BitVec 32) (arg16 : BitVec 32) (k0_hw7 : k0_chk7 i arg15 arg16), ∀ (k0_h1 : k0_cond1 i = 1#1), ∀ a, (k0_off75 arg15 arg16) a + S16.size a ≤ S1040.size a := fun i arg15 arg16 k0_hw7 k0_h1 => k0_hw7 k0_h1

@[reducible] def k0_t9_loop : Scf.Loop 32 :=
  let c0_i32_374 : BitVec 32 := 0#32
  let c10_i32_375 : BitVec 32 := 10#32
  let v940 : BitVec 32 := Scalar.addi c0_i32_374 c10_i32_375
  let c1_i32_376 : BitVec 32 := 1#32
  ⟨c0_i32_374, v940, c1_i32_376⟩
def k0_off76 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk8 (i : grid0.Coords) (arg15 : BitVec 32) (arg16 : BitVec 32) : Prop :=
  (∀ (k0_h1 : k0_cond1 i = 1#1), ∀ a, (k0_off76 arg15 arg16) a + S16.size a ≤ S1040.size a)
theorem k0_off76_inb : ∀ (i : grid0.Coords) (arg15 : BitVec 32) (arg16 : BitVec 32) (k0_hw8 : k0_chk8 i arg15 arg16), ∀ (k0_h1 : k0_cond1 i = 1#1), ∀ a, (k0_off76 arg15 arg16) a + S16.size a ≤ S1040.size a := fun i arg15 arg16 k0_hw8 k0_h1 => k0_hw8 k0_h1

@[reducible] def k0_t10_loop : Scf.Loop 32 :=
  let c0_i32_380 : BitVec 32 := 0#32
  let c10_i32_381 : BitVec 32 := 10#32
  let v947 : BitVec 32 := Scalar.addi c0_i32_380 c10_i32_381
  let c1_i32_382 : BitVec 32 := 1#32
  ⟨c0_i32_380, v947, c1_i32_382⟩
def k0_off77 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk9 (i : grid0.Coords) (arg15 : BitVec 32) (arg16 : BitVec 32) : Prop :=
  (∀ (k0_h1 : k0_cond1 i = 1#1), ∀ a, (k0_off77 arg15 arg16) a + S16.size a ≤ S1040.size a)
theorem k0_off77_inb : ∀ (i : grid0.Coords) (arg15 : BitVec 32) (arg16 : BitVec 32) (k0_hw9 : k0_chk9 i arg15 arg16), ∀ (k0_h1 : k0_cond1 i = 1#1), ∀ a, (k0_off77 arg15 arg16) a + S16.size a ≤ S1040.size a := fun i arg15 arg16 k0_hw9 k0_h1 => k0_hw9 k0_h1

@[reducible] def k0_t11_loop : Scf.Loop 32 :=
  let c0_i32_386 : BitVec 32 := 0#32
  let c10_i32_387 : BitVec 32 := 10#32
  let v954 : BitVec 32 := Scalar.addi c0_i32_386 c10_i32_387
  let c1_i32_388 : BitVec 32 := 1#32
  ⟨c0_i32_386, v954, c1_i32_388⟩
def k0_off78 (arg15 : BitVec 32) (arg16 : BitVec 32) : Fin 1 → Nat :=
  let v964 : BitVec 32 := Scalar.addi arg15 arg16
  let c1_i32_391 : BitVec 32 := 1#32
  let v965 : BitVec 32 := Scalar.shrsi v964 c1_i32_391
  let v966 : Index := Scalar.indexCast v965
  ![v966.toNat]

def k0_chk10 (i : grid0.Coords) (arg15 : BitVec 32) (arg16 : BitVec 32) : Prop :=
  (∀ (k0_h1 : k0_cond1 i = 1#1), ∀ a, (k0_off78 arg15 arg16) a + S16.size a ≤ S1040.size a)
theorem k0_off78_inb : ∀ (i : grid0.Coords) (arg15 : BitVec 32) (arg16 : BitVec 32) (k0_hw10 : k0_chk10 i arg15 arg16), ∀ (k0_h1 : k0_cond1 i = 1#1), ∀ a, (k0_off78 arg15 arg16) a + S16.size a ≤ S1040.size a := fun i arg15 arg16 k0_hw10 k0_h1 => k0_hw10 k0_h1

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x256x128x128 : Shape := ⟨4, ![8, 256, 128, 128]⟩
abbrev S1024x2 : Shape := ⟨2, ![1024, 2]⟩
abbrev S1024 : Shape := ⟨1, ![1024]⟩
abbrev S1024x1 : Shape := ⟨2, ![1024, 1]⟩
abbrev S_ : Shape := ⟨0, ![]⟩
abbrev S1024x4 : Shape := ⟨2, ![1024, 4]⟩
abbrev S1024x1x256x16x16 : Shape := ⟨5, ![1024, 1, 256, 16, 16]⟩
abbrev S1024x256x16x16 : Shape := ⟨4, ![1024, 256, 16, 16]⟩
abbrev S8 : Shape := ⟨1, ![8]⟩

abbrev nBuf : Space → Nat
  | .hbm => 82
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S1024x2, .i32⟩
  | .hbm, ⟨2, _⟩ => ⟨S1024, .i32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S_, .i32⟩
  | .hbm, ⟨46, _⟩ => ⟨S1024x1, .i32⟩
  | .hbm, ⟨47, _⟩ => ⟨S1024x1, .i32⟩
  | .hbm, ⟨48, _⟩ => ⟨S1024x1, .i32⟩
  | .hbm, ⟨49, _⟩ => ⟨S1024x4, .i32⟩
  | .hbm, ⟨50, _⟩ => ⟨S1024x1x256x16x16, .f32⟩
  | .hbm, ⟨51, _⟩ => ⟨S1024x256x16x16, .f32⟩
  | .hbm, ⟨52, _⟩ => ⟨S_, .i32⟩
  | .hbm, ⟨53, _⟩ => ⟨S8, .i32⟩
  | .hbm, ⟨54, _⟩ => ⟨S_, .i32⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S_, .i32⟩
  | .hbm, ⟨67, _⟩ => ⟨S1024, .i32⟩
  | .hbm, ⟨68, _⟩ => ⟨S8, .i32⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x1, .i32⟩
  | .hbm, ⟨77, _⟩ => ⟨S1024x1, .i32⟩
  | .hbm, ⟨78, _⟩ => ⟨S1024x1, .i32⟩
  | .hbm, ⟨79, _⟩ => ⟨S1024x4, .i32⟩
  | .hbm, ⟨80, _⟩ => ⟨S_, .i32⟩
  | .hbm, ⟨81, _⟩ => ⟨S_, .i32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_c_3 : Ref sig .tc := ⟨.hbm, 23, rfl⟩
abbrev main_v6 : Ref sig .tc := ⟨.hbm, 24, rfl⟩
abbrev main_v7 : Ref sig .tc := ⟨.hbm, 25, rfl⟩
abbrev main_c_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_c_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_7 : Ref sig .tc := ⟨.hbm, 37, rfl⟩
abbrev main_v16 : Ref sig .tc := ⟨.hbm, 38, rfl⟩
abbrev main_v17 : Ref sig .tc := ⟨.hbm, 39, rfl⟩
abbrev main_c_8 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_9 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_10 : Ref sig .tc := ⟨.hbm, 52, rfl⟩
abbrev main_v28 : Ref sig .tc := ⟨.hbm, 53, rfl⟩
abbrev main_c_11 : Ref sig .tc := ⟨.hbm, 54, rfl⟩
abbrev main_call2_v0 : Ref sig .tc := ⟨.hbm, 55, rfl⟩
abbrev main_call2_v1 : Ref sig .tc := ⟨.hbm, 56, rfl⟩
abbrev main_v29 : Ref sig .tc := ⟨.hbm, 57, rfl⟩
abbrev main_c_12 : Ref sig .tc := ⟨.hbm, 58, rfl⟩
abbrev main_v30 : Ref sig .tc := ⟨.hbm, 59, rfl⟩
abbrev main_v31 : Ref sig .tc := ⟨.hbm, 60, rfl⟩
abbrev main_c_13 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_14 : Ref sig .tc := ⟨.hbm, 66, rfl⟩
abbrev main_v36 : Ref sig .tc := ⟨.hbm, 67, rfl⟩
abbrev main_v37 : Ref sig .tc := ⟨.hbm, 68, rfl⟩
abbrev main_c_15 : Ref sig .tc := ⟨.hbm, 69, rfl⟩
abbrev main_v38 : Ref sig .tc := ⟨.hbm, 70, rfl⟩
abbrev main_v39 : Ref sig .tc := ⟨.hbm, 71, rfl⟩
abbrev main_c_16 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_17 : Ref sig .tc := ⟨.hbm, 80, rfl⟩
abbrev main_c_18 : Ref sig .tc := ⟨.hbm, 81, rfl⟩

abbrev nD : Nat := 1
abbrev τ : Topo := Topo.v7x

variable {F : FTy → Type} [FloatOps F]
-- ==== Proof.Decode.lean ====
/-
  The two preconditions read as facts about the arrays' words.
-/
module

public import proofs.«01_k».proof.Proof.Gen.Pre_in_range
public import proofs.«01_k».proof.Proof.Gen.Pre_in_range_sorted
public import Idealize.ShloMosaic.Lib.ReduceAll
public import Idealize.ShloMosaic.Lib.StableHlo.Predicate
public import Idealize.ShloMosaic.Lib.Pipeline.Value

@[expose] public section

noncomputable section

namespace Cert.Proof.Decode

open Idealize.ShloMosaic

/-- No axis, -/
abbrev S0 : Shape := ⟨0, ![]⟩
/-- one word, -/
abbrev S1 : Shape := ⟨1, ![1]⟩
/-- a word for each box, -/
abbrev SN : Shape := ⟨1, ![1024]⟩
/-- the same as a column, -/
abbrev SN1 : Shape := ⟨2, ![1024, 1]⟩
/-- two words for each box. -/
abbrev SN2 : Shape := ⟨2, ![1024, 2]⟩

/-- There is one index of no axis. -/
instance : Subsingleton S0.Idx := ⟨fun a b => funext fun i => i.elim0⟩

/-- The rank-one index at a position. -/
def at1 {N : ℕ} (n : ℕ) (h : n < N) : (⟨1, ![N]⟩ : Shape).Idx := fun | ⟨0, _⟩ => ⟨n, h⟩

/-- The index of a box's coordinate `r`. -/
def at2 {N M : ℕ} (n r : ℕ) (h : n < N) (h' : r < M) : (⟨2, ![N, M]⟩ : Shape).Idx := fun | ⟨0, _⟩ => ⟨n, h⟩ | ⟨1, _⟩ => ⟨r, h'⟩

/-- A conjunction of two flags is set when both are. -/
theorem and_set {a b : BitVec 1} (h : IntOp.andi a b = 1#1) : a = 1#1 ∧ b = 1#1 := by
  revert h; revert a b; decide

/-- A signed comparison's flag, read on the integers. -/
theorem slt_set {a b : BitVec 32} (h : IntOp.cmpi .slt a b = 1#1) : a.toInt < b.toInt := by
  have h : a.slt b = true := (StableHlo.Predicate.ofBool_eq_one_iff _).mp h
  rwa [BitVec.slt_eq_decide, decide_eq_true_eq] at h

/-- A signed comparison's flag, read on the integers. -/
theorem sge_set {a b : BitVec 32} (h : IntOp.cmpi .sge a b = 1#1) : b.toInt ≤ a.toInt := by
  have h : b.sle a = true := (StableHlo.Predicate.ofBool_eq_one_iff _).mp h
  rwa [BitVec.sle_eq_decide, decide_eq_true_eq] at h

/-- A word at least zero and below eight is a natural number below eight. -/
theorem below_eight {a : BitVec 32} (h₀ : (0#32 : BitVec 32).toInt ≤ a.toInt) (h₁ : a.toInt < (8#32 : BitVec 32).toInt) : a.toNat < 8 := by
  have e0 : (0#32 : BitVec 32).toInt = 0 := by decide
  have e8 : (8#32 : BitVec 32).toInt = 8 := by decide
  rw [e0] at h₀
  rw [e8] at h₁
  have ht := BitVec.toInt_eq_toNat_cond a
  have hl := a.isLt
  split_ifs at ht <;> omega

/-- Coordinate one of a box, cut out and laid flat. -/
theorem column_apply (A : IVec SN2 32) (hs : SN2.Slices ![0, 1] SN1) (hc : SN1.ShapeCasts SN) (n : ℕ) (h : n < 1024) :
    shapeCast SN (extractStridedSlice SN1 ![0, 1] A hs) hc (at1 n h) = A (at2 n 1 h (by decide)) := by
  rw [shapeCast_apply _ hc (at1 n h) (at2 n 0 h (by decide)) (by rw [Shape.rowMajor_val_one, Shape.rowMajor_val_two]; show n * 1 + 0 = n; omega)]
  unfold extractStridedSlice
  refine congrArg A (funext fun a => Fin.ext ?_)
  match a with
  | ⟨0, _⟩ => exact Nat.zero_add _
  | ⟨1, _⟩ => rfl

/-- Columns below 112 and samples in range, of the flags' conjunctions. -/
theorem range_of (A : IVec SN2 32) (s : IVec SN 32) (hs : SN2.Slices ![0, 1] SN1) (hc : SN1.ShapeCasts SN)
    (hb : S0.BroadcastsInDim SN (![] : Fin 0 → Fin SN.rank)) (hr : SN.ReducesTo [0] S0) (hu : 0 < S0.numel) (j : S0.Idx)
    (h₁ : Host.reduce IntOp.andi (cmpi .slt (shapeCast SN (extractStridedSlice SN1 ![0, 1] A hs) hc) (broadcastInDim SN ![] hb (constantI S0 32 112#32))) (constantI S0 1 1#1) hr hu j = 1#1)
    (h₂ : Host.reduce IntOp.andi (andi (cmpi .sge s (broadcastInDim SN ![] hb (constantI S0 32 0#32))) (cmpi .slt s (broadcastInDim SN ![] hb (constantI S0 32 8#32)))) (constantI S0 1 1#1) hr hu j = 1#1)
    (n : ℕ) (h : n < 1024) : (A (at2 n 1 h (by decide))).toInt < 112 ∧ (s (at1 n h)).toNat < 8 := by
  constructor
  · have e := slt_set (Host.reduce_andi_all _ _ _ _ _ h₁ (at1 n h))
    rw [column_apply] at e
    exact e
  · have e := and_set (Host.reduce_andi_all _ _ _ _ _ h₂ (at1 n h))
    exact below_eight (sge_set e.1) (slt_set e.2)

variable {F : FTy → Type} [FloatOps F]

/-- The first precondition. -/
theorem in_range (fm : FVec F Cert.Pre_in_range.S8x256x128x128 .f32) (A : IVec SN2 32) (s : IVec SN 32)
    (h : Cert.Pre_in_range.fn (F := F) fm A s = fun _ => 1#1) (n : ℕ) (hn : n < 1024) :
    (A (at2 n 1 hn (by decide))).toInt < 112 ∧ (s (at1 n hn)).toNat < 8 := by
  have h := and_set (congrFun h fun a => a.elim0)
  exact range_of A s _ _ _ _ _ _ h.1 h.2 n hn

/-- The second precondition. -/
theorem in_range_sorted (fm : FVec F Cert.Pre_in_range.S8x256x128x128 .f32) (A : IVec SN2 32) (s : IVec SN 32)
    (h : Cert.Pre_in_range_sorted.fn (F := F) fm A s = fun _ => 1#1) :
    (∀ (n : ℕ) (hn : n < 1024), (A (at2 n 1 hn (by decide))).toInt < 112 ∧ (s (at1 n hn)).toNat < 8)
      ∧ (∀ (n : ℕ) (hn : n + 1 < 1024), (s (at1 n (by omega))).toInt ≤ (s (at1 (n + 1) hn)).toInt)
      ∧ s (at1 0 (by decide)) = s (at1 1 (by decide)) := by
  have h := and_set (congrFun h fun a => a.elim0)
  have h' := and_set h.1
  have h'' := and_set h'.1
  refine ⟨fun n hn => range_of A s _ _ _ _ _ _ h''.1 h''.2 n hn, fun n hn => ?_, ?_⟩
  · have e := sge_set (Host.reduce_andi_all _ _ _ _ _ h'.2 (at1 n (by omega : n < 1023)))
    have e₁ : ∀ (o : ℕ) (ho : o + n < 1024) (hs : SN.Slices ![o] ⟨1, ![1023]⟩), extractStridedSlice (⟨1, ![1023]⟩ : Shape) ![o] s hs (at1 n (by omega)) = s (at1 (o + n) ho) := by
      intro o ho hs
      unfold extractStridedSlice
      refine congrArg s (funext fun a => Fin.ext ?_)
      match a with
      | ⟨0, _⟩ => rfl
    beta_reduce at e
    rw [e₁ 0 (by omega), e₁ 1 (by omega)] at e
    have e₂ : (at1 (0 + n) (by omega) : SN.Idx) = at1 n (by omega) := by congr 1; omega
    have e₃ : (at1 (1 + n) (by omega) : SN.Idx) = at1 (n + 1) hn := by congr 1; omega
    rw [e₂, e₃] at e
    exact e
  · have e := StableHlo.Predicate.cmpi_eq_iff.mp (Host.reduce_andi_all _ _ _ _ _ h.2 (at1 0 (by decide : 0 < 1)))
    unfold extractStridedSlice at e
    refine Eq.trans (congrArg s (funext fun a => Fin.ext ?_)) (e.trans (congrArg s (funext fun a => Fin.ext ?_)))
    · match a with
      | ⟨0, _⟩ => rfl
    · match a with
      | ⟨0, _⟩ => rfl

end Cert.Proof.Decode

end
-- ==== Proof.WordsIdeal.lean ====
/-
  Word arithmetic of one region: the corner clipped to [0, 112], the aligned column it is fetched from and the
  remainder its rows are shifted by, and what the kernel's offsets, loop counts and side conditions say in
  natural numbers.
-/
module

public import proofs.«01_k».proof.Proof.Gen.KernelIdeal
public import proofs.«01_k».proof.Proof.Gen.KernelIdeal.Skeleton
public import Idealize.ShloMosaic.Lib.Tactic

@[expose] public section

noncomputable section

namespace Cert.Proof.RoiIdeal

open Cert.KernelIdeal Cert.KernelIdeal.Gen
open Idealize.ShloMosaic Idealize.SL.Sem

/-- A coordinate word clipped to [0, 112]. -/
def clipW (v : BitVec 32) : BitVec 32 := Scalar.minsi (Scalar.maxsi v 0#32) 112#32

/-- The clipped coordinate as a natural number. -/
def clipN (v : BitVec 32) : ℕ := (clipW v).toNat

/-- The kernel's floor division by eight, times eight, of a word. -/
def alignW (x : BitVec 32) : BitVec 32 :=
  Scalar.muli (Scalar.select (Scalar.andi (Scalar.cmpi .ne (Scalar.subi (Scalar.extui (Scalar.cmpi .sgt x 0#32)) (Scalar.extui (Scalar.cmpi .slt x 0#32)))
    (Scalar.subi (Scalar.extui (Scalar.cmpi .sgt 8#32 0#32)) (Scalar.extui (Scalar.cmpi .slt 8#32 0#32)))) (Scalar.cmpi .ne (Scalar.remsi x 8#32) 0#32))
    (Scalar.subi (Scalar.divsi x 8#32) 1#32) (Scalar.divsi x 8#32)) 8#32

/-- A clipped coordinate is at most 112. -/
theorem clipN_le (v : BitVec 32) : clipN v ≤ 112 := by
  have e0 : (0#32 : BitVec 32).toInt = 0 := by decide
  have e1 : (112#32 : BitVec 32).toInt = 112 := by decide
  have f0 : (0#32 : BitVec 32).toNat = 0 := by decide
  have f1 : (112#32 : BitVec 32).toNat = 112 := by decide
  have ht := BitVec.toInt_eq_toNat_cond v
  have hl := v.isLt
  simp only [clipN, clipW, Scalar.minsi, Scalar.maxsi, IntOp.minsi, IntOp.maxsi, BitVec.slt_eq_decide, BitVec.sle_eq_decide, decide_eq_true_eq]
  split_ifs at * <;> omega

/-- The clipped word is its natural number. -/
theorem clipW_eq (v : BitVec 32) : clipW v = BitVec.ofNat 32 (clipN v) := by
  simp [clipN]

/-- Below 112 the clip stays below 112. -/
theorem clipN_lt (v : BitVec 32) (h : v.toInt < 112) : clipN v < 112 := by
  have e0 : (0#32 : BitVec 32).toInt = 0 := by decide
  have e1 : (112#32 : BitVec 32).toInt = 112 := by decide
  have f0 : (0#32 : BitVec 32).toNat = 0 := by decide
  have f1 : (112#32 : BitVec 32).toNat = 112 := by decide
  have ht := BitVec.toInt_eq_toNat_cond v
  have hl := v.isLt
  simp only [clipN, clipW, Scalar.minsi, Scalar.maxsi, IntOp.minsi, IntOp.maxsi, BitVec.slt_eq_decide, BitVec.sle_eq_decide, decide_eq_true_eq]
  split_ifs at * <;> omega

/-- The kernel's aligned column is the multiple of eight below. -/
theorem alignW_ofNat : ∀ n : Fin 113, alignW (BitVec.ofNat 32 n.val) = BitVec.ofNat 32 (n.val / 8 * 8) := by
  decide +kernel

/-- The distance from the aligned column to the column is the remainder by eight. -/
theorem sub_alignW_ofNat : ∀ n : Fin 113, Scalar.subi (BitVec.ofNat 32 n.val) (alignW (BitVec.ofNat 32 n.val)) = BitVec.ofNat 32 (n.val % 8) := by
  decide +kernel

/-- The aligned column of a word, in natural numbers. -/
theorem alignW_clip (v : BitVec 32) : (alignW (clipW v)).toNat = clipN v / 8 * 8 := by
  have h := clipN_le v
  rw [clipW_eq, alignW_ofNat ⟨clipN v, by omega⟩, BitVec.toNat_ofNat]
  exact Nat.mod_eq_of_lt (by simp only; omega)

/-- The shift of a word, in natural numbers. -/
theorem shiftW_clip (v : BitVec 32) : (Scalar.subi (clipW v) (alignW (clipW v))).toNat = clipN v % 8 := by
  have h := clipN_le v
  rw [clipW_eq, sub_alignW_ofNat ⟨clipN v, by omega⟩, BitVec.toNat_ofNat]
  exact Nat.mod_eq_of_lt (by simp only; omega)

/-- The upper bound of the shifting loop, as the kernel computes it from the shift. -/
def boundW (r : BitVec 32) : BitVec 32 :=
  Scalar.addi 0#32 (Scalar.muli (Scalar.divsi (Scalar.subi (Scalar.select (Scalar.cmpi .sgt r 0#32) 256#32 0#32) 0#32) 1#32) 1#32)

/-- The shifting loop's trips, of each remainder. -/
theorem trips_t2_ofNat : ∀ n : Fin 8, Scf.trips 0#32 (boundW (BitVec.ofNat 32 n.val)) 1#32 = if 0 < n.val then 256 else 0 := by
  decide +kernel

/-- The shifting loop is well formed, of each remainder. -/
theorem ok_t2_ofNat : ∀ n : Fin 8, Scf.OK 0#32 (boundW (BitVec.ofNat 32 n.val)) 1#32 := by
  decide +kernel

/-- The rest loop has no trip, of each remainder. -/
theorem trips_t3_ofNat : ∀ n : Fin 8, Scf.trips (boundW (BitVec.ofNat 32 n.val)) (Scalar.addi 0#32 (Scalar.subi (Scalar.select (Scalar.cmpi .sgt (BitVec.ofNat 32 n.val) 0#32) 256#32 0#32) 0#32)) 1#32 = 0 := by
  decide +kernel

/-- The rest loop is well formed, of each remainder. -/
theorem ok_t3_ofNat : ∀ n : Fin 8, Scf.OK (boundW (BitVec.ofNat 32 n.val)) (Scalar.addi 0#32 (Scalar.subi (Scalar.select (Scalar.cmpi .sgt (BitVec.ofNat 32 n.val) 0#32) 256#32 0#32) 0#32)) 1#32 := by
  decide +kernel

/-- The shift's word is the remainder by eight. -/
theorem shiftW_eq (v : BitVec 32) : Scalar.subi (clipW v) (alignW (clipW v)) = BitVec.ofNat 32 (clipN v % 8) := by
  have h := clipN_le v
  rw [clipW_eq, sub_alignW_ofNat ⟨clipN v, by omega⟩]

/-- The shifting loop runs over the 256 planes when the column is not aligned and not at all when it is. -/
theorem trips_t2 (v : BitVec 32) : (k0_t2_loop v).trips = if 0 < clipN v % 8 then 256 else 0 := by
  show Scf.trips 0#32 (boundW (Scalar.subi (clipW v) (alignW (clipW v)))) 1#32 = _
  rw [shiftW_eq]; exact trips_t2_ofNat ⟨clipN v % 8, Nat.mod_lt _ (by decide)⟩

/-- The shifting loop is well formed. -/
theorem ok_t2 (v : BitVec 32) : (k0_t2_loop v).OK := by
  show Scf.OK 0#32 (boundW (Scalar.subi (clipW v) (alignW (clipW v)))) 1#32
  rw [shiftW_eq]; exact ok_t2_ofNat ⟨clipN v % 8, Nat.mod_lt _ (by decide)⟩

/-- The loop over the remainder of an even division has no trips. -/
theorem trips_t3 (v : BitVec 32) : (k0_t3_loop v).trips = 0 := by
  show Scf.trips (boundW (Scalar.subi (clipW v) (alignW (clipW v)))) (Scalar.addi 0#32 (Scalar.subi (Scalar.select (Scalar.cmpi .sgt (Scalar.subi (clipW v) (alignW (clipW v))) 0#32) 256#32 0#32) 0#32)) 1#32 = _
  rw [shiftW_eq]; exact trips_t3_ofNat ⟨clipN v % 8, Nat.mod_lt _ (by decide)⟩

/-- The rest loop is well formed. -/
theorem ok_t3 (v : BitVec 32) : (k0_t3_loop v).OK := by
  show Scf.OK (boundW (Scalar.subi (clipW v) (alignW (clipW v)))) (Scalar.addi 0#32 (Scalar.subi (Scalar.select (Scalar.cmpi .sgt (Scalar.subi (clipW v) (alignW (clipW v))) 0#32) 256#32 0#32) 0#32)) 1#32
  rw [shiftW_eq]; exact ok_t3_ofNat ⟨clipN v % 8, Nat.mod_lt _ (by decide)⟩

/-- A trip of the shifting loop is a plane. -/
theorem trip_lt (v : BitVec 32) (k : Fin (k0_t2_loop v).trips) : k.val < 256 :=
  lt_of_lt_of_le (lt_of_lt_of_eq k.isLt (trips_t2 v)) (by split_ifs <;> decide)

/-- The rest loop has no trip. -/
theorem no_trip (v : BitVec 32) (k : Fin (k0_t3_loop v).trips) : False :=
  absurd (lt_of_lt_of_eq k.isLt (trips_t3 v)) (Nat.not_lt_zero _)

/-- The induction variable of the shifting loop is its trip. -/
theorem iv_toNat (k : ℕ) (h : k < 256) : (Scf.iv 0#32 1#32 k : BitVec 32).toNat = k := by
  simp only [Scf.iv, BitVec.toNat_add, BitVec.toNat_mul, BitVec.toNat_ofNat]
  omega

/-- Where row `j` of plane `k` is read from. -/
theorem off_load (v : BitVec 32) (k : ℕ) (hk : k < 256) (j : ℕ) :
    (![(Scf.iv 0#32 1#32 k : BitVec 32).toNat, j, (Scalar.subi (clipW v) (alignW (clipW v))).toNat] : Fin 3 → ℕ) = ![k, j, clipN v % 8] := by
  rw [iv_toNat k hk, shiftW_clip]

/-- Where row `j` of plane `k` is written. -/
theorem off_store (k : ℕ) (hk : k < 256) (j : ℕ) :
    (![(Scf.iv 0#32 1#32 k : BitVec 32).toNat, j, 0] : Fin 3 → ℕ) = ![k, j, 0] := by
  rw [iv_toNat k hk]

/-- Offset 5 of the kernel, in natural numbers. -/
theorem off5_eq (v : BitVec 32) (k : Fin (k0_t2_loop v).trips) : k0_off5 v k = ![k.val, 0, clipN v % 8] :=
  (show k0_off5 v k = ![(Scf.iv 0#32 1#32 k.val : BitVec 32).toNat, 0, (Scalar.subi (clipW v) (alignW (clipW v))).toNat] from rfl).trans (off_load v k (trip_lt v k) 0)

/-- Offset 6 of the kernel, in natural numbers. -/
theorem off6_eq (v : BitVec 32) (k : Fin (k0_t2_loop v).trips) : k0_off6 v k = ![k.val, 0, 0] :=
  (show k0_off6 v k = ![(Scf.iv 0#32 1#32 k.val : BitVec 32).toNat, 0, 0] from rfl).trans (off_store k (trip_lt v k) 0)

/-- Offset 7 of the kernel, in natural numbers. -/
theorem off7_eq (v : BitVec 32) (k : Fin (k0_t2_loop v).trips) : k0_off7 v k = ![k.val, 1, clipN v % 8] :=
  (show k0_off7 v k = ![(Scf.iv 0#32 1#32 k.val : BitVec 32).toNat, 1, (Scalar.subi (clipW v) (alignW (clipW v))).toNat] from rfl).trans (off_load v k (trip_lt v k) 1)

/-- Offset 8 of the kernel, in natural numbers. -/
theorem off8_eq (v : BitVec 32) (k : Fin (k0_t2_loop v).trips) : k0_off8 v k = ![k.val, 1, 0] :=
  (show k0_off8 v k = ![(Scf.iv 0#32 1#32 k.val : BitVec 32).toNat, 1, 0] from rfl).trans (off_store k (trip_lt v k) 1)

/-- Offset 9 of the kernel, in natural numbers. -/
theorem off9_eq (v : BitVec 32) (k : Fin (k0_t2_loop v).trips) : k0_off9 v k = ![k.val, 2, clipN v % 8] :=
  (show k0_off9 v k = ![(Scf.iv 0#32 1#32 k.val : BitVec 32).toNat, 2, (Scalar.subi (clipW v) (alignW (clipW v))).toNat] from rfl).trans (off_load v k (trip_lt v k) 2)

/-- Offset 10 of the kernel, in natural numbers. -/
theorem off10_eq (v : BitVec 32) (k : Fin (k0_t2_loop v).trips) : k0_off10 v k = ![k.val, 2, 0] :=
  (show k0_off10 v k = ![(Scf.iv 0#32 1#32 k.val : BitVec 32).toNat, 2, 0] from rfl).trans (off_store k (trip_lt v k) 2)

/-- Offset 11 of the kernel, in natural numbers. -/
theorem off11_eq (v : BitVec 32) (k : Fin (k0_t2_loop v).trips) : k0_off11 v k = ![k.val, 3, clipN v % 8] :=
  (show k0_off11 v k = ![(Scf.iv 0#32 1#32 k.val : BitVec 32).toNat, 3, (Scalar.subi (clipW v) (alignW (clipW v))).toNat] from rfl).trans (off_load v k (trip_lt v k) 3)

/-- Offset 12 of the kernel, in natural numbers. -/
theorem off12_eq (v : BitVec 32) (k : Fin (k0_t2_loop v).trips) : k0_off12 v k = ![k.val, 3, 0] :=
  (show k0_off12 v k = ![(Scf.iv 0#32 1#32 k.val : BitVec 32).toNat, 3, 0] from rfl).trans (off_store k (trip_lt v k) 3)

/-- Offset 13 of the kernel, in natural numbers. -/
theorem off13_eq (v : BitVec 32) (k : Fin (k0_t2_loop v).trips) : k0_off13 v k = ![k.val, 4, clipN v % 8] :=
  (show k0_off13 v k = ![(Scf.iv 0#32 1#32 k.val : BitVec 32).toNat, 4, (Scalar.subi (clipW v) (alignW (clipW v))).toNat] from rfl).trans (off_load v k (trip_lt v k) 4)

/-- Offset 14 of the kernel, in natural numbers. -/
theorem off14_eq (v : BitVec 32) (k : Fin (k0_t2_loop v).trips) : k0_off14 v k = ![k.val, 4, 0] :=
  (show k0_off14 v k = ![(Scf.iv 0#32 1#32 k.val : BitVec 32).toNat, 4, 0] from rfl).trans (off_store k (trip_lt v k) 4)

/-- Offset 15 of the kernel, in natural numbers. -/
theorem off15_eq (v : BitVec 32) (k : Fin (k0_t2_loop v).trips) : k0_off15 v k = ![k.val, 5, clipN v % 8] :=
  (show k0_off15 v k = ![(Scf.iv 0#32 1#32 k.val : BitVec 32).toNat, 5, (Scalar.subi (clipW v) (alignW (clipW v))).toNat] from rfl).trans (off_load v k (trip_lt v k) 5)

/-- Offset 16 of the kernel, in natural numbers. -/
theorem off16_eq (v : BitVec 32) (k : Fin (k0_t2_loop v).trips) : k0_off16 v k = ![k.val, 5, 0] :=
  (show k0_off16 v k = ![(Scf.iv 0#32 1#32 k.val : BitVec 32).toNat, 5, 0] from rfl).trans (off_store k (trip_lt v k) 5)

/-- Offset 17 of the kernel, in natural numbers. -/
theorem off17_eq (v : BitVec 32) (k : Fin (k0_t2_loop v).trips) : k0_off17 v k = ![k.val, 6, clipN v % 8] :=
  (show k0_off17 v k = ![(Scf.iv 0#32 1#32 k.val : BitVec 32).toNat, 6, (Scalar.subi (clipW v) (alignW (clipW v))).toNat] from rfl).trans (off_load v k (trip_lt v k) 6)

/-- Offset 18 of the kernel, in natural numbers. -/
theorem off18_eq (v : BitVec 32) (k : Fin (k0_t2_loop v).trips) : k0_off18 v k = ![k.val, 6, 0] :=
  (show k0_off18 v k = ![(Scf.iv 0#32 1#32 k.val : BitVec 32).toNat, 6, 0] from rfl).trans (off_store k (trip_lt v k) 6)

/-- Offset 19 of the kernel, in natural numbers. -/
theorem off19_eq (v : BitVec 32) (k : Fin (k0_t2_loop v).trips) : k0_off19 v k = ![k.val, 7, clipN v % 8] :=
  (show k0_off19 v k = ![(Scf.iv 0#32 1#32 k.val : BitVec 32).toNat, 7, (Scalar.subi (clipW v) (alignW (clipW v))).toNat] from rfl).trans (off_load v k (trip_lt v k) 7)

/-- Offset 20 of the kernel, in natural numbers. -/
theorem off20_eq (v : BitVec 32) (k : Fin (k0_t2_loop v).trips) : k0_off20 v k = ![k.val, 7, 0] :=
  (show k0_off20 v k = ![(Scf.iv 0#32 1#32 k.val : BitVec 32).toNat, 7, 0] from rfl).trans (off_store k (trip_lt v k) 7)

/-- Offset 21 of the kernel, in natural numbers. -/
theorem off21_eq (v : BitVec 32) (k : Fin (k0_t2_loop v).trips) : k0_off21 v k = ![k.val, 8, clipN v % 8] :=
  (show k0_off21 v k = ![(Scf.iv 0#32 1#32 k.val : BitVec 32).toNat, 8, (Scalar.subi (clipW v) (alignW (clipW v))).toNat] from rfl).trans (off_load v k (trip_lt v k) 8)

/-- Offset 22 of the kernel, in natural numbers. -/
theorem off22_eq (v : BitVec 32) (k : Fin (k0_t2_loop v).trips) : k0_off22 v k = ![k.val, 8, 0] :=
  (show k0_off22 v k = ![(Scf.iv 0#32 1#32 k.val : BitVec 32).toNat, 8, 0] from rfl).trans (off_store k (trip_lt v k) 8)

/-- Offset 23 of the kernel, in natural numbers. -/
theorem off23_eq (v : BitVec 32) (k : Fin (k0_t2_loop v).trips) : k0_off23 v k = ![k.val, 9, clipN v % 8] :=
  (show k0_off23 v k = ![(Scf.iv 0#32 1#32 k.val : BitVec 32).toNat, 9, (Scalar.subi (clipW v) (alignW (clipW v))).toNat] from rfl).trans (off_load v k (trip_lt v k) 9)

/-- Offset 24 of the kernel, in natural numbers. -/
theorem off24_eq (v : BitVec 32) (k : Fin (k0_t2_loop v).trips) : k0_off24 v k = ![k.val, 9, 0] :=
  (show k0_off24 v k = ![(Scf.iv 0#32 1#32 k.val : BitVec 32).toNat, 9, 0] from rfl).trans (off_store k (trip_lt v k) 9)

/-- Offset 25 of the kernel, in natural numbers. -/
theorem off25_eq (v : BitVec 32) (k : Fin (k0_t2_loop v).trips) : k0_off25 v k = ![k.val, 10, clipN v % 8] :=
  (show k0_off25 v k = ![(Scf.iv 0#32 1#32 k.val : BitVec 32).toNat, 10, (Scalar.subi (clipW v) (alignW (clipW v))).toNat] from rfl).trans (off_load v k (trip_lt v k) 10)

/-- Offset 26 of the kernel, in natural numbers. -/
theorem off26_eq (v : BitVec 32) (k : Fin (k0_t2_loop v).trips) : k0_off26 v k = ![k.val, 10, 0] :=
  (show k0_off26 v k = ![(Scf.iv 0#32 1#32 k.val : BitVec 32).toNat, 10, 0] from rfl).trans (off_store k (trip_lt v k) 10)

/-- Offset 27 of the kernel, in natural numbers. -/
theorem off27_eq (v : BitVec 32) (k : Fin (k0_t2_loop v).trips) : k0_off27 v k = ![k.val, 11, clipN v % 8] :=
  (show k0_off27 v k = ![(Scf.iv 0#32 1#32 k.val : BitVec 32).toNat, 11, (Scalar.subi (clipW v) (alignW (clipW v))).toNat] from rfl).trans (off_load v k (trip_lt v k) 11)

/-- Offset 28 of the kernel, in natural numbers. -/
theorem off28_eq (v : BitVec 32) (k : Fin (k0_t2_loop v).trips) : k0_off28 v k = ![k.val, 11, 0] :=
  (show k0_off28 v k = ![(Scf.iv 0#32 1#32 k.val : BitVec 32).toNat, 11, 0] from rfl).trans (off_store k (trip_lt v k) 11)

/-- Offset 29 of the kernel, in natural numbers. -/
theorem off29_eq (v : BitVec 32) (k : Fin (k0_t2_loop v).trips) : k0_off29 v k = ![k.val, 12, clipN v % 8] :=
  (show k0_off29 v k = ![(Scf.iv 0#32 1#32 k.val : BitVec 32).toNat, 12, (Scalar.subi (clipW v) (alignW (clipW v))).toNat] from rfl).trans (off_load v k (trip_lt v k) 12)

/-- Offset 30 of the kernel, in natural numbers. -/
theorem off30_eq (v : BitVec 32) (k : Fin (k0_t2_loop v).trips) : k0_off30 v k = ![k.val, 12, 0] :=
  (show k0_off30 v k = ![(Scf.iv 0#32 1#32 k.val : BitVec 32).toNat, 12, 0] from rfl).trans (off_store k (trip_lt v k) 12)

/-- Offset 31 of the kernel, in natural numbers. -/
theorem off31_eq (v : BitVec 32) (k : Fin (k0_t2_loop v).trips) : k0_off31 v k = ![k.val, 13, clipN v % 8] :=
  (show k0_off31 v k = ![(Scf.iv 0#32 1#32 k.val : BitVec 32).toNat, 13, (Scalar.subi (clipW v) (alignW (clipW v))).toNat] from rfl).trans (off_load v k (trip_lt v k) 13)

/-- Offset 32 of the kernel, in natural numbers. -/
theorem off32_eq (v : BitVec 32) (k : Fin (k0_t2_loop v).trips) : k0_off32 v k = ![k.val, 13, 0] :=
  (show k0_off32 v k = ![(Scf.iv 0#32 1#32 k.val : BitVec 32).toNat, 13, 0] from rfl).trans (off_store k (trip_lt v k) 13)

/-- Offset 33 of the kernel, in natural numbers. -/
theorem off33_eq (v : BitVec 32) (k : Fin (k0_t2_loop v).trips) : k0_off33 v k = ![k.val, 14, clipN v % 8] :=
  (show k0_off33 v k = ![(Scf.iv 0#32 1#32 k.val : BitVec 32).toNat, 14, (Scalar.subi (clipW v) (alignW (clipW v))).toNat] from rfl).trans (off_load v k (trip_lt v k) 14)

/-- Offset 34 of the kernel, in natural numbers. -/
theorem off34_eq (v : BitVec 32) (k : Fin (k0_t2_loop v).trips) : k0_off34 v k = ![k.val, 14, 0] :=
  (show k0_off34 v k = ![(Scf.iv 0#32 1#32 k.val : BitVec 32).toNat, 14, 0] from rfl).trans (off_store k (trip_lt v k) 14)

/-- Offset 35 of the kernel, in natural numbers. -/
theorem off35_eq (v : BitVec 32) (k : Fin (k0_t2_loop v).trips) : k0_off35 v k = ![k.val, 15, clipN v % 8] :=
  (show k0_off35 v k = ![(Scf.iv 0#32 1#32 k.val : BitVec 32).toNat, 15, (Scalar.subi (clipW v) (alignW (clipW v))).toNat] from rfl).trans (off_load v k (trip_lt v k) 15)

/-- Offset 36 of the kernel, in natural numbers. -/
theorem off36_eq (v : BitVec 32) (k : Fin (k0_t2_loop v).trips) : k0_off36 v k = ![k.val, 15, 0] :=
  (show k0_off36 v k = ![(Scf.iv 0#32 1#32 k.val : BitVec 32).toNat, 15, 0] from rfl).trans (off_store k (trip_lt v k) 15)

/-- A row of sixteen elements read at the shift stays inside its buffer. -/
theorem inb_load (o : Fin 3 → ℕ) (k j r : ℕ) (hk : k < 256) (hj : j < 16) (h : o = ![k, j, r % 8]) : ∀ a, o a + S1x1x16.size a ≤ S256x16x24.size a := by
  subst h
  intro a
  fin_cases a
  · show k + 1 ≤ 256; omega
  · show j + 1 ≤ 16; omega
  · show r % 8 + 16 ≤ 24; omega

/-- A row of sixteen elements at the left edge stays inside its buffer. -/
theorem inb_store (o : Fin 3 → ℕ) (k j : ℕ) (hk : k < 256) (hj : j < 16) (h : o = ![k, j, 0]) : ∀ a, o a + S1x1x16.size a ≤ S256x16x24.size a :=
  inb_load o k j 0 hk hj h

/-- The aligned column is a multiple of eight. -/
theorem mult_dvd (v : BitVec 32) : 8 ∣ (k0_mult1 v).toNat := by
  show 8 ∣ (alignW (clipW v)).toNat
  rw [alignW_clip]; exact Dvd.intro_left _ rfl

/-- The facts the body assumes of the column word hold of every word. -/
theorem chk1_all (v : BitVec 32) : k0_chk1 v :=
  ⟨⟨mult_dvd v, ok_t2 v,
    fun k => inb_load _ k 0 (clipN v) (trip_lt v k) (by decide) (off5_eq v k),
    fun k => inb_store _ k 0 (trip_lt v k) (by decide) (off6_eq v k),
    fun k => inb_load _ k 1 (clipN v) (trip_lt v k) (by decide) (off7_eq v k),
    fun k => inb_store _ k 1 (trip_lt v k) (by decide) (off8_eq v k),
    fun k => inb_load _ k 2 (clipN v) (trip_lt v k) (by decide) (off9_eq v k),
    fun k => inb_store _ k 2 (trip_lt v k) (by decide) (off10_eq v k),
    fun k => inb_load _ k 3 (clipN v) (trip_lt v k) (by decide) (off11_eq v k),
    fun k => inb_store _ k 3 (trip_lt v k) (by decide) (off12_eq v k),
    fun k => inb_load _ k 4 (clipN v) (trip_lt v k) (by decide) (off13_eq v k),
    fun k => inb_store _ k 4 (trip_lt v k) (by decide) (off14_eq v k),
    fun k => inb_load _ k 5 (clipN v) (trip_lt v k) (by decide) (off15_eq v k),
    fun k => inb_store _ k 5 (trip_lt v k) (by decide) (off16_eq v k),
    fun k => inb_load _ k 6 (clipN v) (trip_lt v k) (by decide) (off17_eq v k),
    fun k => inb_store _ k 6 (trip_lt v k) (by decide) (off18_eq v k),
    fun k => inb_load _ k 7 (clipN v) (trip_lt v k) (by decide) (off19_eq v k),
    fun k => inb_store _ k 7 (trip_lt v k) (by decide) (off20_eq v k),
    fun k => inb_load _ k 8 (clipN v) (trip_lt v k) (by decide) (off21_eq v k),
    fun k => inb_store _ k 8 (trip_lt v k) (by decide) (off22_eq v k),
    fun k => inb_load _ k 9 (clipN v) (trip_lt v k) (by decide) (off23_eq v k),
    fun k => inb_store _ k 9 (trip_lt v k) (by decide) (off24_eq v k),
    fun k => inb_load _ k 10 (clipN v) (trip_lt v k) (by decide) (off25_eq v k),
    fun k => inb_store _ k 10 (trip_lt v k) (by decide) (off26_eq v k),
    fun k => inb_load _ k 11 (clipN v) (trip_lt v k) (by decide) (off27_eq v k),
    fun k => inb_store _ k 11 (trip_lt v k) (by decide) (off28_eq v k),
    fun k => inb_load _ k 12 (clipN v) (trip_lt v k) (by decide) (off29_eq v k),
    fun k => inb_store _ k 12 (trip_lt v k) (by decide) (off30_eq v k),
    fun k => inb_load _ k 13 (clipN v) (trip_lt v k) (by decide) (off31_eq v k),
    fun k => inb_store _ k 13 (trip_lt v k) (by decide) (off32_eq v k),
    fun k => inb_load _ k 14 (clipN v) (trip_lt v k) (by decide) (off33_eq v k),
    fun k => inb_store _ k 14 (trip_lt v k) (by decide) (off34_eq v k)⟩,
   ⟨fun k => inb_load _ k 15 (clipN v) (trip_lt v k) (by decide) (off35_eq v k),
    fun k => inb_store _ k 15 (trip_lt v k) (by decide) (off36_eq v k),
    ok_t3 v, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim, fun k => (no_trip v k).elim⟩,
   ⟨fun k => (no_trip v k).elim, fun k => (no_trip v k).elim, fun k => (no_trip v k).elim⟩⟩

/-- The window of the feature map a region is fetched from. -/
theorem off4_eq (y x b : BitVec 32) : k0_off4 y x b = ![b.toNat, 0, clipN y, clipN x / 8 * 8] := by
  show ![b.toNat, 0, (clipW y).toNat, (alignW (clipW x)).toNat] = _
  rw [alignW_clip]; rfl

/-- The window lies inside the feature map when the sample index is below eight and the column below 112. -/
theorem chk2_of (y x b : BitVec 32) (hb : b.toNat < 8) (hx : x.toInt < 112) : k0_chk2 y x b := by
  show ∀ a, _
  rw [off4_eq]
  have hy := clipN_le y
  have hx' := clipN_lt x hx
  intro a
  fin_cases a
  · show b.toNat + 1 ≤ 8; omega
  · show 0 + 256 ≤ 256; omega
  · show clipN y + 16 ≤ 128; omega
  · show clipN x / 8 * 8 + 24 ≤ 128; omega

end Cert.Proof.RoiIdeal

end
-- ==== Proof.ShiftIdeal.lean ====
/-
  The shift of one fetched block: each of its 256 planes' 16 rows is moved left by the shift in place, sixteen
  elements at a time. `shiftTo r p f` is the block after its first `p` rows have moved; one row's load, load and
  store take `p` to `p + 1`, a trip of the loop takes sixteen of them.
-/
module

public import proofs.«01_k».proof.Proof.WordsIdeal
public import Idealize.ShloMosaic.Lib.SparseCore.Quiescent
public import Idealize.ShloMosaic.Lib.StableHlo.Run
public import Idealize.ShloMosaic.Lib.Pipeline.Kit
public import Idealize.ShloMosaic.Lib.WritesUnit
public import Idealize.ShloMosaic.Lib.Pipeline.Value
public import Idealize.ShloMosaic.Lib.Tactic

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra and the tile's thread -/

/-- The handshakes' rounds. -/
abbrev UH : Type := URounds (GSem nD τ sig) ℕ
/-- The ghost state: the handshakes' rounds and the copies' counters. -/
abbrev UU : Type := UH × Counters

local notation "𝕄" => MT nD τ sig (HIx 1) (Elt F) ℕ UU ℕ

/-- The SparseCore and the tile at grid coordinates `L`. -/
abbrev cV (L : grid0.Coords) : Fin τ.nSC := (L 0).castLE hcore0
/-- and its place there. -/
abbrev jV (L : grid0.Coords) : Fin τ.nSub := (L 1).castLE hsub0

/-- No loop needs a variant. -/
abbrev 𝒱₀ : Variants := Variants.none

/-- The block buffer of a tile, as the body's memory operations address it. -/
abbrev stageM : Memref sig .scVector .vmem S256x16x24 .f32 := Memref.whole cc0_scratch4

/-- The index of a block at three natural coordinates. -/
def ix3 (a b c : ℕ) (ha : a < 256) (hb : b < 16) (hc : c < 24) : S256x16x24.Idx := fun
  | ⟨0, _⟩ => ⟨a, ha⟩
  | ⟨1, _⟩ => ⟨b, hb⟩
  | ⟨2, _⟩ => ⟨c, hc⟩

/-- The block after the first `p` rows (plane by plane, sixteen to a plane) have moved left by `r`. -/
def shiftTo (r p : ℕ) (f : S256x16x24.Idx → Elt F .f32) : S256x16x24.Idx → Elt F .f32 := fun i =>
  if h : 16 * (i 0).val + (i 1).val < p ∧ (i 2).val < 16 ∧ (i 2).val + r < 24 then f (ix3 (i 0).val (i 1).val ((i 2).val + r) (i 0).isLt (i 1).isLt h.2.2) else f i

/-- With no plane shifted the block is as it was. -/
theorem shiftTo_zero (r : ℕ) (f : S256x16x24.Idx → Elt F .f32) : shiftTo r 0 f = f := by
  funext i; unfold shiftTo; rw [dif_neg]; omega

/-- A shift by zero leaves the block. -/
theorem shiftTo_none (p : ℕ) (f : S256x16x24.Idx → Elt F .f32) : shiftTo 0 p f = f := by
  funext i; unfold shiftTo
  split_ifs
  · congr 1; funext a; fin_cases a <;> first | rfl | exact Fin.ext (Nat.add_zero _)
  · rfl

/-- One row's store, of the sixteen elements read at the shift, moves one row more. -/
theorem shift_row (f : S256x16x24.Idx → Elt F .f32) (r k j : ℕ) (hr : r < 8) (hk : k < 256) (hj : j < 16)
    (o₁ o₂ : Fin 3 → ℕ) (h₁ : ∀ a, o₁ a + S1x1x16.size a ≤ S256x16x24.size a) (h₂ : ∀ a, o₂ a + S1x1x16.size a ≤ S256x16x24.size a)
    (e₁ : o₁ = ![k, j, r]) (e₂ : o₂ = ![k, j, 0]) :
    (stageM.access (Rect.unit (s := S256x16x24) o₂ S1x1x16.size h₂)).write (Elt F) (shiftTo r (16 * k + j) f)
        (stageM.view.readAt (Elt F) (Rect.unit (s := S256x16x24) o₁ S1x1x16.size h₁).toLoadRect (shiftTo r (16 * k + j) f)) Finset.univ
      = shiftTo r (16 * k + j + 1) f := by
  subst e₁ e₂
  funext y
  have key := View.read_writes_cons_unit stageM.view (Val := Elt F) (shiftTo r (16 * k + j) f) (off := ![k, j, 0]) (size := S1x1x16.size) h₂
    (stageM.view.readAt (Elt F) (Rect.unit (s := S256x16x24) ![k, j, r] S1x1x16.size h₁).toLoadRect (shiftTo r (16 * k + j) f)) [] y rfl
  refine (show _ = _ from key).trans ?_
  have hy0 : (y 0).val < 256 := (y 0).isLt
  have hy1 : (y 1).val < 16 := (y 1).isLt
  have hy2 : (y 2).val < 24 := (y 2).isLt
  by_cases h : (y 0).val = k ∧ (y 1).val = j ∧ (y 2).val < 16
  · obtain ⟨h0, h1, h2⟩ := h
    rw [dif_pos (by
      intro a; fin_cases a
      · show k ≤ (y 0).val ∧ (y 0).val < k + 1; omega
      · show j ≤ (y 1).val ∧ (y 1).val < j + 1; omega
      · show 0 ≤ (y 2).val ∧ (y 2).val < 0 + 16; omega)]
    rw [View.readAt_apply]
    show shiftTo r (16 * k + j) f _ = _
    have hx : (LoadRect.idx (Rect.unit (s := S256x16x24) ![k, j, r] S1x1x16.size h₁).toLoadRect
        (Rect.unitLocal (s := S256x16x24) (off := ![k, j, 0]) (size := S1x1x16.size) y (by
      intro a; fin_cases a
      · show k ≤ (y 0).val ∧ (y 0).val < k + 1; omega
      · show j ≤ (y 1).val ∧ (y 1).val < j + 1; omega
      · show 0 ≤ (y 2).val ∧ (y 2).val < 0 + 16; omega))) = ix3 (y 0).val (y 1).val ((y 2).val + r) hy0 hy1 (by omega) := by
      funext a; apply Fin.ext; fin_cases a
      · show k + 1 * ((y 0).val - k) = (y 0).val; omega
      · show j + 1 * ((y 1).val - j) = (y 1).val; omega
      · show r + 1 * ((y 2).val - 0) = (y 2).val + r; omega
    refine (congrArg (shiftTo r (16 * k + j) f) hx).trans ?_
    unfold shiftTo
    rw [dif_neg (by rintro ⟨h, -, -⟩; have : 16 * (y 0).val + (y 1).val < 16 * k + j := h; omega), dif_pos ⟨by omega, h2, by omega⟩]
  · rw [dif_neg (by
      intro hall; apply h
      have a0 : k ≤ (y 0).val ∧ (y 0).val < k + 1 := hall 0
      have a1 : j ≤ (y 1).val ∧ (y 1).val < j + 1 := hall 1
      have a2 : 0 ≤ (y 2).val ∧ (y 2).val < 0 + 16 := hall 2
      omega)]
    show shiftTo r (16 * k + j) f y = _
    unfold shiftTo
    by_cases h' : 16 * (y 0).val + (y 1).val < 16 * k + j ∧ (y 2).val < 16 ∧ (y 2).val + r < 24
    · rw [dif_pos h', dif_pos ⟨by omega, h'.2⟩]
    · rw [dif_neg h', dif_neg (by omega)]

/-- One row's three operations before any continuation. -/
theorem wp_row [FloatOps F] (d : Dev nD) (L : grid0.Coords) (f : S256x16x24.Idx → Elt F .f32) (r k j : ℕ) (hr : r < 8) (hk : k < 256) (hj : j < 16)
    (o₁ o₂ : Fin 3 → ℕ) (h₁ : ∀ a, o₁ a + S1x1x16.size a ≤ S256x16x24.size a) (h₂ : ∀ a, o₂ a + S1x1x16.size a ≤ S256x16x24.size a)
    (e₁ : o₁ = ![k, j, r]) (e₂ : o₂ = ![k, j, 0]) (pay : Vec F S1x1x16 .f32 → FVec F S1x1x16 .f32) (hpay : ∀ v, pay v = v)
    {α : Type} (kk : Prog (TpuEff nD τ sig (Elt F) Λ₀ (V d (cV L) (jV L)).2) α) (Q : α → sProp 𝕄) {hl₁ hl₂ hx hm} :
    iprop(stageM.view.loc (V d (cV L) (jV L)) ↦{fullShare} shiftTo r (16 * k + j) f)
      ⊢ iprop(((stageM.view.loc (V d (cV L) (jV L)) ↦{fullShare} shiftTo r (16 * k + j + 1) f)
          -∗ wp frame (wpE (defs₀ (F := F)) 𝒱₀ (V d (cV L) (jV L)) none) Set.univ kk Q)
        -∗ wp frame (wpE (defs₀ (F := F)) 𝒱₀ (V d (cV L) (jV L)) none) Set.univ
          (.op (.load stageM (Rect.unit (s := S256x16x24) o₁ S1x1x16.size h₁).toLoadRect hl₁) fun v =>
            .op (.load stageM (Rect.unit (s := S256x16x24) o₂ S1x1x16.size h₂).toLoadRect hl₂) fun _ =>
              .op (.store stageM (Rect.unit (s := S256x16x24) o₂ S1x1x16.size h₂) (pay v) Finset.univ hx hm) fun _ => kk) Q) := by
  iintro H Hk
  sl_step
  sl_step
  sl_step
  rw [hpay, shift_row f r k j hr hk hj o₁ o₂ h₁ h₂ e₁ e₂]
  iapply Hk
  iexact H

/-- A row's payload is the row read: reshaped there and back. -/
theorem cast_row (v : Vec F S1x1x16 .f32) (h h') : shapeCast S1x1x16 (shapeCast S16 v h) h' = v := shapeCast_shapeCast v h h'

set_option maxHeartbeats 4000000 in
/-- One trip of the shifting loop moves the sixteen rows of its plane. -/
theorem shift_trip [FloatOps F] (d : Dev nD) (L : grid0.Coords) (f : S256x16x24.Idx → Elt F .f32) (v2 : BitVec 32) (t : Fin k0_t1_loop.trips)
    (a14 y x : BitVec 32) (hw₁ : k0_chk1 x) (b : BitVec 32) (hw₂ : k0_chk2 y x b) (r : BitVec 32) (k : Fin (k0_t2_loop x).trips) (acc : BitVec 32) :
    iprop(stageM.view.loc (V d (cV L) (jV L)) ↦{fullShare} shiftTo (clipN x % 8) (16 * k.val) f)
      ⊢ wp frame (wpE (defs₀ (F := F)) 𝒱₀ (V d (cV L) (jV L)) none) Set.univ
          (k0_t2_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v2 t a14 y x hw₁ b hw₂ r k acc)
          fun _ => (iprop(stageM.view.loc (V d (cV L) (jV L)) ↦{fullShare} shiftTo (clipN x % 8) (16 * (k.val + 1)) f) : sProp 𝕄) := by
  have hr : clipN x % 8 < 8 := Nat.mod_lt _ (by decide)
  have hk := trip_lt x k
  unfold k0_t2_body
  rw [k0_part1_eq_skeleton, k0_part2_eq_skeleton, k0_part3_eq_skeleton]
  unfold k0_part1_skel k0_part2_skel k0_part3_skel
  simp only [Prog.lift, Prog.bind_op, Prog.bind_ret, Prog.pure_eq_ret]
  iintro H
  iapply (wp_row d L f (clipN x % 8) k.val 0 hr hk (by decide) _ _ (k0_off5_inb x hw₁ k) (k0_off6_inb x hw₁ k) (off5_eq x k) (off6_eq x k) (fun v => k0_pay1 v) (fun v => cast_row v _ _)) $$ H
  iintro H
  iapply (wp_row d L f (clipN x % 8) k.val 1 hr hk (by decide) _ _ (k0_off7_inb x hw₁ k) (k0_off8_inb x hw₁ k) (off7_eq x k) (off8_eq x k) (fun v => k0_pay2 v) (fun v => cast_row v _ _)) $$ H
  iintro H
  iapply (wp_row d L f (clipN x % 8) k.val 2 hr hk (by decide) _ _ (k0_off9_inb x hw₁ k) (k0_off10_inb x hw₁ k) (off9_eq x k) (off10_eq x k) (fun v => k0_pay3 v) (fun v => cast_row v _ _)) $$ H
  iintro H
  iapply (wp_row d L f (clipN x % 8) k.val 3 hr hk (by decide) _ _ (k0_off11_inb x hw₁ k) (k0_off12_inb x hw₁ k) (off11_eq x k) (off12_eq x k) (fun v => k0_pay4 v) (fun v => cast_row v _ _)) $$ H
  iintro H
  iapply (wp_row d L f (clipN x % 8) k.val 4 hr hk (by decide) _ _ (k0_off13_inb x hw₁ k) (k0_off14_inb x hw₁ k) (off13_eq x k) (off14_eq x k) (fun v => k0_pay5 v) (fun v => cast_row v _ _)) $$ H
  iintro H
  iapply (wp_row d L f (clipN x % 8) k.val 5 hr hk (by decide) _ _ (k0_off15_inb x hw₁ k) (k0_off16_inb x hw₁ k) (off15_eq x k) (off16_eq x k) (fun v => k0_pay6 v) (fun v => cast_row v _ _)) $$ H
  iintro H
  iapply (wp_row d L f (clipN x % 8) k.val 6 hr hk (by decide) _ _ (k0_off17_inb x hw₁ k) (k0_off18_inb x hw₁ k) (off17_eq x k) (off18_eq x k) (fun v => k0_pay7 v) (fun v => cast_row v _ _)) $$ H
  iintro H
  iapply (wp_row d L f (clipN x % 8) k.val 7 hr hk (by decide) _ _ (k0_off19_inb x hw₁ k) (k0_off20_inb x hw₁ k) (off19_eq x k) (off20_eq x k) (fun v => k0_pay8 v) (fun v => cast_row v _ _)) $$ H
  iintro H
  iapply (wp_row d L f (clipN x % 8) k.val 8 hr hk (by decide) _ _ (k0_off21_inb x hw₁ k) (k0_off22_inb x hw₁ k) (off21_eq x k) (off22_eq x k) (fun v => k0_pay10 (k0_pay9 v)) (fun v => cast_row v _ _)) $$ H
  iintro H
  iapply (wp_row d L f (clipN x % 8) k.val 9 hr hk (by decide) _ _ (k0_off23_inb x hw₁ k) (k0_off24_inb x hw₁ k) (off23_eq x k) (off24_eq x k) (fun v => k0_pay11 v) (fun v => cast_row v _ _)) $$ H
  iintro H
  iapply (wp_row d L f (clipN x % 8) k.val 10 hr hk (by decide) _ _ (k0_off25_inb x hw₁ k) (k0_off26_inb x hw₁ k) (off25_eq x k) (off26_eq x k) (fun v => k0_pay12 v) (fun v => cast_row v _ _)) $$ H
  iintro H
  iapply (wp_row d L f (clipN x % 8) k.val 11 hr hk (by decide) _ _ (k0_off27_inb x hw₁ k) (k0_off28_inb x hw₁ k) (off27_eq x k) (off28_eq x k) (fun v => k0_pay13 v) (fun v => cast_row v _ _)) $$ H
  iintro H
  iapply (wp_row d L f (clipN x % 8) k.val 12 hr hk (by decide) _ _ (k0_off29_inb x hw₁ k) (k0_off30_inb x hw₁ k) (off29_eq x k) (off30_eq x k) (fun v => k0_pay33 (k0_pay14 v)) (fun v => cast_row v _ _)) $$ H
  iintro H
  iapply (wp_row d L f (clipN x % 8) k.val 13 hr hk (by decide) _ _ (k0_off31_inb x hw₁ k) (k0_off32_inb x hw₁ k) (off31_eq x k) (off32_eq x k) (fun v => k0_pay34 v) (fun v => cast_row v _ _)) $$ H
  iintro H
  iapply (wp_row d L f (clipN x % 8) k.val 14 hr hk (by decide) _ _ (k0_off33_inb x hw₁ k) (k0_off34_inb x hw₁ k) (off33_eq x k) (off34_eq x k) (fun v => k0_pay35 v) (fun v => cast_row v _ _)) $$ H
  iintro H
  iapply (wp_row d L f (clipN x % 8) k.val 15 hr hk (by decide) _ _ (k0_off35_inb x hw₁ k) (k0_off36_inb x hw₁ k) (off35_eq x k) (off36_eq x k) (fun v => k0_pay36 v) (fun v => cast_row v _ _)) $$ H
  iintro H
  sl_step
  iexact H

end Cert.Proof.RoiIdeal

end
-- ==== Proof.RunIdeal.lean ====
/-
  What a tile's copies and loads do: a local copy together with its wait, the block fetched for a region, the
  region written to the result, and the words read from the two index tables. The values are total functions of
  the four arrays' contents.
-/
module

public import proofs.«01_k».proof.Proof.ShiftIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Values -/

/-- A feature map read at four natural coordinates (taken modulo the extents, so that the reading is total). -/
def at4 (fm : S8x256x128x128.Idx → Elt F .f32) (a b c d : ℕ) : Elt F .f32 := fm fun
  | ⟨0, _⟩ => ⟨a % 8, Nat.mod_lt _ (by decide)⟩
  | ⟨1, _⟩ => ⟨b % 256, Nat.mod_lt _ (by decide)⟩
  | ⟨2, _⟩ => ⟨c % 128, Nat.mod_lt _ (by decide)⟩
  | ⟨3, _⟩ => ⟨d % 128, Nat.mod_lt _ (by decide)⟩

/-- The flat corner table read at a natural position. -/
def boxAt (bb : S2048.Idx → BitVec 32) (n : ℕ) : BitVec 32 := bb fun | ⟨0, _⟩ => ⟨n % 2048, Nat.mod_lt _ (by decide)⟩

/-- The sample table read at a natural position. -/
def sampleAt (ss : S1024.Idx → BitVec 32) (n : ℕ) : BitVec 32 := ss fun | ⟨0, _⟩ => ⟨n % 1024, Nat.mod_lt _ (by decide)⟩

/-- The block fetched for a corner: rows from `y`, columns from `x`, of sample `b`. -/
def fetchV (fm : S8x256x128x128.Idx → Elt F .f32) (b y x : ℕ) : S256x16x24.Idx → Elt F .f32 := fun i =>
  at4 fm b (i 0).val (y + (i 1).val) (x + (i 2).val)

/-- The regions' values: region `y 0` of the result reads its sample at its clipped corner. -/
def outV (fm : S8x256x128x128.Idx → Elt F .f32) (bb : S2048.Idx → BitVec 32) (ss : S1024.Idx → BitVec 32) :
    S1024x256x16x16.Idx → Elt F .f32 := fun y =>
  at4 fm (sampleAt ss (y 0).val).toNat (y 1).val (clipN (boxAt bb (2 * (y 0).val)) + (y 2).val) (clipN (boxAt bb (2 * (y 0).val + 1)) + (y 3).val)

/-- A tile's number: its regions are `32 * wid L` to `32 * wid L + 31`. -/
abbrev wid (L : grid0.Coords) : ℕ := 2 * (L 1).val + (L 0).val

/-! ## The tile's views -/

/-- A tile's thread. -/
abbrev vT (d : Dev nD) (L : grid0.Coords) : Thread nD τ := V d (cV L) (jV L)

/-- The feature maps, -/
abbrev fmM : Memref sig .scVector .hbm S8x256x128x128 .f32 := Memref.whole main_arg0_scv
/-- the boxes' words, -/
abbrev bbM : Memref sig .scVector .hbm S2048 .i32 := Memref.whole main_v0_scv
/-- the samples, -/
abbrev asM : Memref sig .scVector .hbm S1024 .i32 := Memref.whole main_arg2_scv
/-- the regions, -/
abbrev outM : Memref sig .scVector .hbm S1024x256x16x16 .f32 := Memref.whole main_v1_0_scv
/-- the corner words -/
abbrev btM : Memref sig .scVector .hbm S4096 .i32 := Memref.whole main_v1_1_scv
/-- and the counts, as a tile sees them; -/
abbrev cntM : Memref sig .scVector .hbm S8 .i32 := Memref.whole main_v1_2_scv
/-- a tile's copies of its boxes, -/
abbrev boxM : Memref sig .scVector .vmem S80 .i32 := Memref.whole cc0_scratch0
/-- of the samples, -/
abbrev smpM : Memref sig .scVector .vmem S1040 .i32 := Memref.whole cc0_scratch1
/-- its corner words -/
abbrev rowM : Memref sig .scVector .vmem S128 .i32 := Memref.whole cc0_scratch2
/-- and its counts. -/
abbrev numM : Memref sig .scVector .vmem S16 .i32 := Memref.whole cc0_scratch3

/-! ## A copy and its wait -/

/-- What a tile owes once it has made some waits of its own beyond `W`. -/
def owed (c : Thread nD τ) (O : CellTallies nD τ sig (HIx 1)) (W : Waits sig (HIx 1)) : sProp 𝕄 :=
  iprop(∃ W', ⌜∀ p ∈ W', p ∈ W ∨ p.2 = none⌝ ∗ owes c O W')

/-- What a thread owes, with its waits named. -/
theorem owed_intro (c : Thread nD τ) (O : CellTallies nD τ sig (HIx 1)) (W : Waits sig (HIx 1)) :
    owes c O W ⊢ (owed c O W : sProp 𝕄) := by
  unfold owed
  iintro H
  iexists W
  isplitr
  · ipureintro; exact fun p h => Or.inl h
  · iexact H

/-- A local copy waited for at once: the source's share comes back, the destination holds what the source's view
    read, the semaphore is at zero again. -/
theorem wp_copy [FloatOps F] {d : Dev nD} {L : grid0.Coords} {sp sp' spw spv : Space} {s sw : Shape} {e ew : EltTy} {κw : Kind}
    {src : Memref sig .scVector sp s e} {dst : Memref sig .scVector sp' s e} {sem : DmaSem sig} {hsrc hdst hsem}
    {srcw : Memref sig .scVector spw sw ew} {dstw : Memref sig κw spv s e} {hsw hdw}
    {O : CellTallies nD τ sig (HIx 1)} {W : Waits sig (HIx 1)} {q : PosShare TreeShare}
    {Ss : Finset (Idx (src.view.loc (vT d L)))} {fs : Buf (Elt F) (src.view.loc (vT d L))}
    {Sd : Finset (Idx (dst.view.loc (vT d L)))} {fd : Buf (Elt F) (dst.view.loc (vT d L))}
    {α : Type} (kk : Prog (TpuEff nD τ sig (Elt F) Λ₀ (vT d L).2) α) (Q : α → sProp 𝕄)
    (hn : 0 < s.numel) (hw : dstw.view.dmaCredit = dst.view.dmaCredit) (hSs : src.view.set ⊆ Ss) (hSd : dst.view.set ⊆ Sd) :
    iprop(Transfers.MayWaits (vT d L) none O ∗ (src.view.loc (vT d L) ↦[Ss]{q} fs) ∗ (dst.view.loc (vT d L) ↦[Sd]{fullShare} fd) ∗ semVal (vT d L, .dma sem) 0 ∗ owed (vT d L) O W)
      ⊢ iprop(((src.view.loc (vT d L) ↦[Ss]{q} fs) -∗ (dst.view.loc (vT d L) ↦[Sd]{fullShare} dst.view.write (Elt F) fd (src.view.read (Elt F) fs) Finset.univ)
            -∗ semVal (vT d L, .dma sem) 0 -∗ owed (vT d L) O W
            -∗ wp frame (wpE (defs₀ (F := F)) 𝒱₀ (vT d L) none) Set.univ kk Q)
        -∗ wp frame (wpE (defs₀ (F := F)) 𝒱₀ (vT d L) none) Set.univ
          (.op (.enqueueDma src (.here dst) (.dma sem) hsrc hdst hsem) fun _ => .op (.waitDma2 sem srcw dstw hsw hdw) fun _ => kk) Q) := by
  iintro ⟨Hmw, Hs, Hd, Hv, HO⟩ Hk
  unfold owed
  icases HO with ⟨%W', %hW', HO⟩
  icases (pointsTo_split_subset hSs).1 $$ Hs with ⟨Hs, Hrest⟩
  iapply (Transfers.wp_dmaLocal countersEmb 𝒱₀ (vT d L) none (none : HIx 1) _ rfl
    (show 0 < dst.view.amount (SemLoc.dma sem) from View.amount_pos _ _ hn) hSd) $$ [Hs Hd Hv]
  · isplitl [Hs]; · iexact Hs
    isplitl [Hd] <;> iassumption
  iintro Hf
  iapply (Transfers.wp_waitLocalO countersEmb 𝒱₀ (vT d L) none (none : HIx 1) hw) $$ [Hf HO Hmw]
  · isplitl [Hf]; · iexact Hf
    isplitl [HO]; · iexact HO
    iapply (Transfers.MayWaits.elim (SemLoc.dma sem)) $$ Hmw
  iintro ⟨⟨Hd, Hs⟩, Hv, HO⟩
  iapply Hk $$ [Hs Hrest] [Hd] [Hv] [HO]
  · iapply (pointsTo_split_subset hSs).2
    isplitl [Hs] <;> iassumption
  · iexact Hd
  · iexact Hv
  · iexists insert (SemLoc.dma sem, (none : HIx 1)) W'
    isplitr
    · ipureintro
      intro p hp
      rcases Finset.mem_insert.mp hp with h | h
      · right; rw [h]
      · exact hW' p h
    · iexact HO

/-! ## A block fetched, a region written -/

/-- An index of a fetched window, its dropped leading axis put back. -/
def inFetch (i : S256x16x24.Idx) : S1x256x16x24.Idx := fun
  | ⟨0, _⟩ => ⟨0, Nat.one_pos⟩
  | ⟨1, _⟩ => i 0
  | ⟨2, _⟩ => i 1
  | ⟨3, _⟩ => i 2

/-- An index of a region, its dropped leading axis put back. -/
def inRegion (i : S256x16x16.Idx) : S1x256x16x16.Idx := fun
  | ⟨0, _⟩ => ⟨0, Nat.one_pos⟩
  | ⟨1, _⟩ => i 0
  | ⟨2, _⟩ => i 1
  | ⟨3, _⟩ => i 2

/-- A fetched block's index among the map's, its unit axis put back. -/
theorem reshape_inFetch (h : S256x16x24.numel = S1x256x16x24.numel) (i : S256x16x24.Idx) : Shape.reshapeEquiv h i = inFetch i :=
  Shape.reshapeEquiv_eq_of_rowMajor h (by
    rw [Shape.rowMajor_val_four, Shape.rowMajor_val_three]
    show ((((inFetch i 0).val * 256 + (i 0).val) * 16 + (i 1).val) * 24 + (i 2).val) = ((i 0).val * 16 + (i 1).val) * 24 + (i 2).val
    rw [show (inFetch i 0).val = 0 from rfl, Nat.zero_mul, Nat.zero_add])

/-- A region's index among the result's, its unit axis put back. -/
theorem reshape_inRegion (h : S256x16x16.numel = S1x256x16x16.numel) (i : S256x16x16.Idx) : Shape.reshapeEquiv h i = inRegion i :=
  Shape.reshapeEquiv_eq_of_rowMajor h (by
    rw [Shape.rowMajor_val_four, Shape.rowMajor_val_three]
    show ((((inRegion i 0).val * 256 + (i 0).val) * 16 + (i 1).val) * 16 + (i 2).val) = ((i 0).val * 16 + (i 1).val) * 16 + (i 2).val
    rw [show (inRegion i 0).val = 0 from rfl, Nat.zero_mul, Nat.zero_add])

/-- The window of the feature map a block is fetched through. -/
abbrev fetchM (o : Fin 4 → ℕ) (h : ∀ a, o a + S1x256x16x24.size a ≤ S8x256x128x128.size a) : Memref sig .scVector .hbm S256x16x24 .f32 :=
  (fmM.slice (Rect.unit (s := S8x256x128x128) o S1x256x16x24.size h) (fun _ => rfl)).squeeze S256x16x24 squeezes_S1x256x16x24_S256x16x24

/-- The window of the result a region is written through. -/
abbrev regionM (o : Fin 4 → ℕ) (h : ∀ a, o a + S1x256x16x16.size a ≤ S1024x256x16x16.size a) : Memref sig .scVector .hbm S256x16x16 .f32 :=
  (outM.slice (Rect.unit (s := S1024x256x16x16) o S1x256x16x16.size h) (fun _ => rfl)).squeeze S256x16x16 squeezes_S1x256x16x16_S256x16x16

/-- The first sixteen columns of the block, which hold the region once its rows have moved. -/
abbrev frontM : Memref sig .scVector .vmem S256x16x16 .f32 :=
  stageM.slice (Rect.unit (s := S256x16x24) ![0, 0, 0] S256x16x16.size inb_S256x16x24_S256x16x16_0_0_0) (fun _ => rfl)

/-- A fetch at a start reads the map there. -/
theorem fetch_read (fm : S8x256x128x128.Idx → Elt F .f32) (o : Fin 4 → ℕ) (h : ∀ a, o a + S1x256x16x24.size a ≤ S8x256x128x128.size a)
    (b y x : ℕ) (e : o = ![b, 0, y, x]) : (fetchM o h).view.read (Elt F) fm = fetchV fm b y x := by
  subst e
  have hb : b + 1 ≤ 8 := h 0
  have hy : y + 16 ≤ 128 := h 2
  have hx : x + 24 ≤ 128 := h 3
  funext i
  have i0 : (i 0).val < 256 := (i 0).isLt
  have i1 : (i 1).val < 16 := (i 1).isLt
  have i2 : (i 2).val < 24 := (i 2).isLt
  show fm ((Rect.unit (s := S8x256x128x128) ![b, 0, y, x] S1x256x16x24.size h).emb (Shape.reshapeEquiv _ i)) = _
  rw [reshape_inFetch]
  unfold fetchV at4
  congr 1
  funext a; apply Fin.ext
  fin_cases a
  · show b + 1 * (inFetch i 0).val = b % 8
    rw [show (inFetch i 0).val = 0 from rfl]; omega
  · show 0 + 1 * (i 0).val = (i 0).val % 256; omega
  · show y + 1 * (i 1).val = (y + (i 1).val) % 128; omega
  · show x + 1 * (i 2).val = (x + (i 2).val) % 128; omega

/-- The block's front read at an index. -/
theorem front_read (f : S256x16x24.Idx → Elt F .f32) (i : S256x16x16.Idx) :
    frontM.view.read (Elt F) f i = f (ix3 (i 0).val (i 1).val (i 2).val (i 0).isLt (i 1).isLt
      (Nat.lt_trans (show (i 2).val < 16 from (i 2).isLt) (by decide))) := by
  show f ((Rect.unit (s := S256x16x24) ![0, 0, 0] S256x16x16.size inb_S256x16x24_S256x16x16_0_0_0).emb i) = _
  congr 1
  funext a; apply Fin.ext
  fin_cases a
  · show 0 + 1 * (i 0).val = (i 0).val; omega
  · show 0 + 1 * (i 1).val = (i 1).val; omega
  · show 0 + 1 * (i 2).val = (i 2).val; omega

/-- An index of the result's last three axes. -/
def ofRegion (y : S1024x256x16x16.Idx) : S256x16x16.Idx := fun
  | ⟨0, _⟩ => y 1
  | ⟨1, _⟩ => y 2
  | ⟨2, _⟩ => y 3

/-- A region's element lies in the result at the region's number. -/
theorem region_emb (o : Fin 4 → ℕ) (h : ∀ a, o a + S1x256x16x16.size a ≤ S1024x256x16x16.size a) (p : ℕ) (e : o = ![p, 0, 0, 0])
    (y : S1024x256x16x16.Idx) (hy : (y 0).val = p) : (regionM o h).view.emb (ofRegion y) = y := by
  subst e
  show (Rect.unit (s := S1024x256x16x16) ![p, 0, 0, 0] S1x256x16x16.size h).emb (Shape.reshapeEquiv _ (ofRegion y)) = y
  rw [reshape_inRegion]
  funext a; apply Fin.ext
  fin_cases a
  · show p + 1 * (inRegion (ofRegion y) 0).val = (y 0).val
    rw [show (inRegion (ofRegion y) 0).val = 0 from rfl]; omega
  · show 0 + 1 * (y 1).val = (y 1).val; omega
  · show 0 + 1 * (y 2).val = (y 2).val; omega
  · show 0 + 1 * (y 3).val = (y 3).val; omega

/-- A region is the elements with its number. -/
theorem region_set (o : Fin 4 → ℕ) (h : ∀ a, o a + S1x256x16x16.size a ≤ S1024x256x16x16.size a) (p : ℕ) (e : o = ![p, 0, 0, 0])
    (y : S1024x256x16x16.Idx) : y ∈ (regionM o h).view.set ↔ (y 0).val = p := by
  constructor
  · intro hy
    obtain ⟨i, -, rfl⟩ := Finset.mem_map.mp hy
    subst e
    show ((Rect.unit (s := S1024x256x16x16) ![p, 0, 0, 0] S1x256x16x16.size h).emb (Shape.reshapeEquiv _ i) 0).val = p
    rw [reshape_inRegion]
    show p + 1 * (inRegion i 0).val = p
    rw [show (inRegion i 0).val = 0 from rfl]; omega
  · intro hy
    rw [← region_emb o h p e y hy]
    exact View.emb_mem_set _ _

/-- A region's write: its own elements take the payload, the others stay. -/
theorem region_write (g : S1024x256x16x16.Idx → Elt F .f32) (w : S256x16x16.Idx → Elt F .f32) (o : Fin 4 → ℕ)
    (h : ∀ a, o a + S1x256x16x16.size a ≤ S1024x256x16x16.size a) (p : ℕ) (e : o = ![p, 0, 0, 0]) (y : S1024x256x16x16.Idx) :
    (regionM o h).view.write (Elt F) g w Finset.univ y = if (y 0).val = p then w (ofRegion y) else g y := by
  split_ifs with hy
  · exact (congrArg ((regionM o h).view.write (Elt F) g w Finset.univ) (region_emb o h p e y hy)).symm.trans
      ((View.write_emb_of_mem (v := (regionM o h).view) g w (Finset.mem_univ (ofRegion y))).trans rfl)
  · exact View.write_of_not_mem g w Finset.univ fun hm => hy ((region_set o h p e y).mp hm)

/-- The elements of the result that are a tile's: 32 regions. -/
def outSet (w : ℕ) : Finset S1024x256x16x16.Idx := Finset.univ.filter fun y => 32 * w ≤ (y 0).val ∧ (y 0).val < 32 * w + 32

/-- A tile's regions are 32 in a row. -/
theorem mem_outSet (w : ℕ) (y : S1024x256x16x16.Idx) : y ∈ outSet w ↔ 32 * w ≤ (y 0).val ∧ (y 0).val < 32 * w + 32 := by
  simp [outSet]

/-- The block of a region, fetched and moved, holds the region in its front. -/
theorem front_value (fm : S8x256x128x128.Idx → Elt F .f32) (bb : S2048.Idx → BitVec 32) (ss : S1024.Idx → BitVec 32) (y : S1024x256x16x16.Idx)
    (n : ℕ) (hn : (y 0).val = n) :
    frontM.view.read (Elt F) (shiftTo (clipN (boxAt bb (2 * n + 1)) % 8) 4096
      (fetchV fm (sampleAt ss n).toNat (clipN (boxAt bb (2 * n))) (clipN (boxAt bb (2 * n + 1)) / 8 * 8))) (ofRegion y) = outV fm bb ss y := by
  have y1 : (y 1).val < 256 := (y 1).isLt
  have y2 : (y 2).val < 16 := (y 2).isLt
  have y3 : (y 3).val < 16 := (y 3).isLt
  refine (front_read _ _).trans ?_
  refine (dif_pos (show 16 * (y 1).val + (y 2).val < 4096 ∧ (y 3).val < 16 ∧ (y 3).val + clipN (boxAt bb (2 * n + 1)) % 8 < 24 by omega)).trans ?_
  show at4 fm (sampleAt ss n).toNat (y 1).val (clipN (boxAt bb (2 * n)) + (y 2).val)
    (clipN (boxAt bb (2 * n + 1)) / 8 * 8 + ((y 3).val + clipN (boxAt bb (2 * n + 1)) % 8)) = _
  unfold outV
  rw [hn]
  congr 1
  omega

end Cert.Proof.RoiIdeal

end
-- ==== Proof.BoxIdeal.lean ====
/-
  One region of a tile: the three words read, the block fetched, its rows moved, the region written. The loop over
  a tile's 32 regions keeps the regions written so far at their values.
-/
module

public import proofs.«01_k».proof.Proof.RunIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Words read from a table -/

/-- The one coordinate of a flat index. -/
def at1 {n : ℕ} (k : ℕ) (h : k < n) : (⟨1, ![n]⟩ : Shape).Idx := fun
  | ⟨0, _⟩ => ⟨k, h⟩

/-- A lane of sixteen words loaded from the corner scratch. -/
theorem box_lane (f : S80.Idx → BitVec 32) (o : Fin 1 → ℕ) (h : ∀ a, o a + S16.size a ≤ S80.size a) (n : ℕ) (e : o = ![n]) (j : ℕ) (hj : j < 16)
    (hn : n + j < 80) : boxM.view.readAt (Elt F) (Rect.unit (s := S80) o S16.size h).toLoadRect f (at1 j hj) = f (at1 (n + j) hn) := by
  subst e
  rw [View.readAt_apply]
  show f _ = f _
  congr 1
  funext a; apply Fin.ext; fin_cases a
  show n + 1 * j = n + j
  rw [Nat.one_mul]

/-- A lane of sixteen words loaded from the sample scratch. -/
theorem smp_lane (f : S1040.Idx → BitVec 32) (o : Fin 1 → ℕ) (h : ∀ a, o a + S16.size a ≤ S1040.size a) (n : ℕ) (e : o = ![n]) (j : ℕ) (hj : j < 16)
    (hn : n + j < 1040) : smpM.view.readAt (Elt F) (Rect.unit (s := S1040) o S16.size h).toLoadRect f (at1 j hj) = f (at1 (n + j) hn) := by
  subst e
  rw [View.readAt_apply]
  show f _ = f _
  congr 1
  funext a; apply Fin.ext; fin_cases a
  show n + 1 * j = n + j
  rw [Nat.one_mul]

/-- One word extracted from sixteen: the lane at the offset. -/
theorem lane_extract (v : S16.Idx → BitVec 32) (k : ℕ) (h : S16.Slices ![k] S1) (hk : k < 16) (hc : S16.ShapeCasts S16) (hp) :
    extractAt ![0] (extractStridedSlice S1 ![k] (shapeCast S16 v hc) h) hp = v (at1 k hk) := by
  rw [shapeCast_self]
  unfold extractAt extractStridedSlice
  congr 1
  funext a; apply Fin.ext; fin_cases a
  rfl

/-- The box's row is word 0 of the sixteen loaded. -/
theorem pay30_lane (v : Vec F S16 .i32) : extractAt ![0] (k0_pay30 (F := F) v) inpos_S1_p0 = v (at1 0 (by decide)) := by
  unfold k0_pay30 k0_pay29
  exact lane_extract v 0 slices_S16_o0_S1 (by decide) shapeCasts_S16_S16 _

/-- The box's column is word 1 of the sixteen loaded. -/
theorem pay31_lane (v : Vec F S16 .i32) : extractAt ![0] (k0_pay31 (F := F) v) inpos_S1_p0 = v (at1 1 (by decide)) := by
  unfold k0_pay31 k0_pay29
  exact lane_extract v 1 slices_S16_o1_S1 (by decide) shapeCasts_S16_S16 _

/-- The box's sample is word 0 of the sixteen loaded. -/
theorem pay32_lane (v : Vec F S16 .i32) : extractAt ![0] (k0_pay32 (F := F) v) inpos_S1_p0 = v (at1 0 (by decide)) := by
  unfold k0_pay32
  exact lane_extract v 0 slices_S16_o0_S1 (by decide) shapeCasts_S16_S16 _
/-! ## The block's loops -/

/-- The shifting loop moves every row of the block; where the column is aligned it has no trips and there is nothing to move. -/
theorem shift_loop [FloatOps F] (d : Dev nD) (L : grid0.Coords) (f : S256x16x24.Idx → Elt F .f32) (v2 : BitVec 32) (t : Fin k0_t1_loop.trips)
    (a14 y x : BitVec 32) (hw₁ : k0_chk1 x) (b : BitVec 32) (hw₂ : k0_chk2 y x b) (r : BitVec 32) (ok : (k0_t2_loop x).OK) (init : BitVec 32)
    {α : Type} (kk : BitVec 32 → Prog (TpuEff nD τ sig (Elt F) Λ₀ (vT d L).2) α) (Q : α → sProp 𝕄) :
    iprop(stageM.view.loc (vT d L) ↦{fullShare} f)
      ⊢ iprop((∀ acc, (stageM.view.loc (vT d L) ↦{fullShare} shiftTo (clipN x % 8) 4096 f)
            -∗ wp frame (wpE (defs₀ (F := F)) 𝒱₀ (vT d L) none) Set.univ (kk acc) Q)
        -∗ wp frame (wpE (defs₀ (F := F)) 𝒱₀ (vT d L) none) Set.univ
          (Scf.Loop.for (k0_t2_loop x) ok init (k0_t2_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v2 t a14 y x hw₁ b hw₂ r) >>= kk) Q) := by
  iintro H Hk
  iapply (Scf.wp_for_bind frame (wpE (defs₀ (F := F)) 𝒱₀ (vT d L) none) Set.univ _ _ _ ok init _
    (fun k _ => (iprop(stageM.view.loc (vT d L) ↦{fullShare} shiftTo (clipN x % 8) (16 * k) f) : sProp 𝕄))
    (fun k acc => shift_trip d L f v2 t a14 y x hw₁ b hw₂ r k acc)) $$ [H]
  · rw [Nat.mul_zero, shiftTo_zero]; iexact H
  iintro %acc H
  iapply Hk $$ %acc
  rw [show Scf.trips (k0_t2_loop x).lb (k0_t2_loop x).ub (k0_t2_loop x).st = if 0 < clipN x % 8 then 256 else 0 from trips_t2 x]
  by_cases h : 0 < clipN x % 8
  · rw [if_pos h]; iexact H
  · rw [if_neg h, show clipN x % 8 = 0 by omega, shiftTo_none, shiftTo_none]; iexact H

/-- The remainder loop has no trips. -/
theorem rest_loop [FloatOps F] (d : Dev nD) (L : grid0.Coords) (x : BitVec 32) (ok : (k0_t3_loop x).OK) (init : BitVec 32)
    (body : Fin (k0_t3_loop x).trips → BitVec 32 → Prog (TpuEff nD τ sig (Elt F) Λ₀ (vT d L).2) (BitVec 32))
    {α : Type} (kk : BitVec 32 → Prog (TpuEff nD τ sig (Elt F) Λ₀ (vT d L).2) α) (Q : α → sProp 𝕄) :
    iprop(∀ acc, wp frame (wpE (defs₀ (F := F)) 𝒱₀ (vT d L) none) Set.univ (kk acc) Q)
      ⊢ wp frame (wpE (defs₀ (F := F)) 𝒱₀ (vT d L) none) Set.univ (Scf.Loop.for (k0_t3_loop x) ok init body >>= kk) Q := by
  iintro Hk
  iapply (Scf.wp_for_bind frame (wpE (defs₀ (F := F)) 𝒱₀ (vT d L) none) Set.univ _ _ _ ok init _
    (fun _ _ => (iprop(emp) : sProp 𝕄)) (fun k _ => (no_trip x k).elim)) $$ []
  · iempintro
  iintro %acc -
  iapply Hk

/-! ## One region -/

/-- The regions of tile `w` written before its `k`-th hold their values. -/
def Done (fm : S8x256x128x128.Idx → Elt F .f32) (bb : S2048.Idx → BitVec 32) (ss : S1024.Idx → BitVec 32) (w k : ℕ) (g : S1024x256x16x16.Idx → Elt F .f32) : Prop :=
  ∀ y : S1024x256x16x16.Idx, 32 * w ≤ (y 0).val → (y 0).val < 32 * w + k → g y = outV fm bb ss y

/-- There are 32 tiles. -/
theorem wid_lt (L : grid0.Coords) : wid L < 32 := by
  have h0 : (L 0).val < 2 := (L 0).isLt
  have h1 : (L 1).val < 16 := (L 1).isLt
  unfold wid; omega

/-- A trip of the regions' loop is a region. -/
theorem box_lt (k : Fin k0_t1_loop.trips) : k.val < 32 := lt_of_lt_of_eq k.isLt (by decide)

/-- What the regions' loop holds before its `k`-th trip. -/
def boxInv (d : Dev nD) (L : grid0.Coords) (fm : S8x256x128x128.Idx → Elt F .f32) (bb : S2048.Idx → BitVec 32) (ss : S1024.Idx → BitVec 32)
    (q : PosShare TreeShare) (f8 : S80.Idx → BitVec 32) (f9 : S1040.Idx → BitVec 32) (O : CellTallies nD τ sig (HIx 1)) (W : Waits sig (HIx 1)) (k : ℕ) : sProp 𝕄 :=
  iprop(Transfers.MayWaits (vT d L) none O ∗ (fmM.view.loc (vT d L) ↦{q} fm) ∗ (boxM.view.loc (vT d L) ↦{fullShare} f8) ∗ (smpM.view.loc (vT d L) ↦{fullShare} f9)
    ∗ (∃ f : S256x16x24.Idx → Elt F .f32, stageM.view.loc (vT d L) ↦{fullShare} f)
    ∗ (∃ g : S1024x256x16x16.Idx → Elt F .f32, ⌜Done fm bb ss (wid L) k g⌝ ∗ (outM.view.loc (vT d L) ↦[outSet (wid L)]{fullShare} g))
    ∗ semVal (vT d L, .dma cc0_scoped2.sem) 0 ∗ semVal (vT d L, .dma cc0_scoped3.sem) 0 ∗ owed (vT d L) O W)

/-- What the scratch tables hold of the two index arrays: the tile's own corners, and every sample. -/
structure Tables (bb : S2048.Idx → BitVec 32) (ss : S1024.Idx → BitVec 32) (w : ℕ) (f8 : S80.Idx → BitVec 32) (f9 : S1040.Idx → BitVec 32) : Prop where
  box : ∀ j (h : j < 64), f8 (at1 j (by omega)) = boxAt bb (64 * w + j)
  smp : ∀ j (h : j < 1024), f9 (at1 j (by omega)) = sampleAt ss j

/-- The range of the inputs the fetches need: a sample is one of the eight, a left edge lies below 112. -/
structure InRange (bb : S2048.Idx → BitVec 32) (ss : S1024.Idx → BitVec 32) : Prop where
  smp : ∀ n, n < 1024 → (sampleAt ss n).toNat < 8
  col : ∀ n, n < 1024 → (boxAt bb (2 * n + 1)).toInt < 112

/-- The fetch of a block: the whole scratch block takes the window. -/
theorem fetch_step [FloatOps F] (d : Dev nD) (L : grid0.Coords) (fm : S8x256x128x128.Idx → Elt F .f32) (q : PosShare TreeShare) (f : S256x16x24.Idx → Elt F .f32)
    (o : Fin 4 → ℕ) (h : ∀ a, o a + S1x256x16x24.size a ≤ S8x256x128x128.size a) (b y x : ℕ) (e : o = ![b, 0, y, x])
    (O : CellTallies nD τ sig (HIx 1)) (W : Waits sig (HIx 1)) {hsrc hdst hsem hsw hdw}
    {α : Type} (kk : Prog (TpuEff nD τ sig (Elt F) Λ₀ (vT d L).2) α) (Q : α → sProp 𝕄) :
    iprop(Transfers.MayWaits (vT d L) none O ∗ (fmM.view.loc (vT d L) ↦{q} fm) ∗ (stageM.view.loc (vT d L) ↦{fullShare} f)
        ∗ semVal (vT d L, .dma cc0_scoped2.sem) 0 ∗ owed (vT d L) O W)
      ⊢ iprop(((fmM.view.loc (vT d L) ↦{q} fm) -∗ (stageM.view.loc (vT d L) ↦{fullShare} fetchV fm b y x)
            -∗ semVal (vT d L, .dma cc0_scoped2.sem) 0 -∗ owed (vT d L) O W
            -∗ wp frame (wpE (defs₀ (F := F)) 𝒱₀ (vT d L) none) Set.univ kk Q)
        -∗ wp frame (wpE (defs₀ (F := F)) 𝒱₀ (vT d L) none) Set.univ
          (.op (.enqueueDma (fetchM o h) (.here stageM) (.dma cc0_scoped2.sem) hsrc hdst hsem) fun _ =>
            .op (.waitDma2 cc0_scoped2.sem (fetchM o h) stageM hsw hdw) fun _ => kk) Q) := by
  have hv : stageM.view.write (Elt F) f ((fetchM o h).view.read (Elt F) fm) Finset.univ = fetchV fm b y x := by
    rw [fetch_read fm o h b y x e]
    exact View.write_whole_univ _ _ _
  have key := wp_copy (F := F) (d := d) (L := L) (src := fetchM o h) (dst := stageM) (sem := cc0_scoped2.sem) (hsrc := hsrc) (hdst := hdst) (hsem := hsem)
    (srcw := fetchM o h) (dstw := stageM) (hsw := hsw) (hdw := hdw) (O := O) (W := W) (q := q) (Ss := Finset.univ) (fs := fm) (Sd := Finset.univ) (fd := f)
    kk Q (by decide) rfl (Finset.subset_univ _) (Finset.subset_univ _)
  rw [hv] at key
  exact key

/-- A region's write: the tile's elements of the result take the block's front at the region. -/
theorem region_step [FloatOps F] (d : Dev nD) (L : grid0.Coords) (f : S256x16x24.Idx → Elt F .f32) (g : S1024x256x16x16.Idx → Elt F .f32)
    (o : Fin 4 → ℕ) (h : ∀ a, o a + S1x256x16x16.size a ≤ S1024x256x16x16.size a) (p : ℕ) (e : o = ![p, 0, 0, 0])
    (hp : 32 * wid L ≤ p) (hp' : p < 32 * wid L + 32)
    (O : CellTallies nD τ sig (HIx 1)) (W : Waits sig (HIx 1)) {hsrc hdst hsem hsw hdw}
    {α : Type} (kk : Prog (TpuEff nD τ sig (Elt F) Λ₀ (vT d L).2) α) (Q : α → sProp 𝕄) :
    iprop(Transfers.MayWaits (vT d L) none O ∗ (stageM.view.loc (vT d L) ↦{fullShare} f) ∗ (outM.view.loc (vT d L) ↦[outSet (wid L)]{fullShare} g)
        ∗ semVal (vT d L, .dma cc0_scoped3.sem) 0 ∗ owed (vT d L) O W)
      ⊢ iprop(((stageM.view.loc (vT d L) ↦{fullShare} f)
            -∗ (outM.view.loc (vT d L) ↦[outSet (wid L)]{fullShare} fun y => if (y 0).val = p then frontM.view.read (Elt F) f (ofRegion y) else g y)
            -∗ semVal (vT d L, .dma cc0_scoped3.sem) 0 -∗ owed (vT d L) O W
            -∗ wp frame (wpE (defs₀ (F := F)) 𝒱₀ (vT d L) none) Set.univ kk Q)
        -∗ wp frame (wpE (defs₀ (F := F)) 𝒱₀ (vT d L) none) Set.univ
          (.op (.enqueueDma frontM (.here (regionM o h)) (.dma cc0_scoped3.sem) hsrc hdst hsem) fun _ =>
            .op (.waitDma2 cc0_scoped3.sem frontM (regionM o h) hsw hdw) fun _ => kk) Q) := by
  have hv : (regionM o h).view.write (Elt F) g (frontM.view.read (Elt F) f) Finset.univ
      = fun y => if (y 0).val = p then frontM.view.read (Elt F) f (ofRegion y) else g y := by
    funext y
    exact region_write g _ o h p e y
  have hs : (regionM o h).view.set ⊆ outSet (wid L) := fun y hy => by
    have := (region_set o h p e y).mp hy
    exact (mem_outSet _ _).mpr (by omega)
  have key := wp_copy (F := F) (d := d) (L := L) (src := frontM) (dst := regionM o h) (sem := cc0_scoped3.sem) (hsrc := hsrc) (hdst := hdst) (hsem := hsem)
    (srcw := frontM) (dstw := regionM o h) (hsw := hsw) (hdw := hdw) (O := O) (W := W) (q := fullShare) (Ss := Finset.univ) (fs := f) (Sd := outSet (wid L)) (fd := g)
    kk Q (by decide) rfl (Finset.subset_univ _) hs
  rw [hv] at key
  exact key

/-- Writing the front of a region's block makes one region more hold its values. -/
theorem done_next (fm : S8x256x128x128.Idx → Elt F .f32) (bb : S2048.Idx → BitVec 32) (ss : S1024.Idx → BitVec 32) (w k : ℕ)
    (g : S1024x256x16x16.Idx → Elt F .f32) (hg : Done fm bb ss w k g) (y x b : BitVec 32)
    (hY : y = boxAt bb (2 * (32 * w + k))) (hX : x = boxAt bb (2 * (32 * w + k) + 1)) (hB : b = sampleAt ss (32 * w + k)) :
    Done fm bb ss w (k + 1) fun i => if (i 0).val = 32 * w + k then
      frontM.view.read (Elt F) (shiftTo (clipN x % 8) 4096 (fetchV fm b.toNat (clipN y) (clipN x / 8 * 8))) (ofRegion i) else g i := by
  subst hY hX hB
  intro i h₁ h₂
  by_cases h : (i 0).val = 32 * w + k
  · exact (if_pos h).trans (front_value fm bb ss i _ h)
  · exact (if_neg h).trans (hg i h₁ (by omega))

set_option maxHeartbeats 4000000 in
/-- A region once its words are read: fetch, move, write. -/
theorem region_trip [FloatOps F] (d : Dev nD) (L : grid0.Coords) (fm : S8x256x128x128.Idx → Elt F .f32) (bb : S2048.Idx → BitVec 32) (ss : S1024.Idx → BitVec 32)
    (q : PosShare TreeShare) (f : S256x16x24.Idx → Elt F .f32) (g : S1024x256x16x16.Idx → Elt F .f32)
    (O : CellTallies nD τ sig (HIx 1)) (W : Waits sig (HIx 1)) (v2 : BitVec 32) (k : Fin k0_t1_loop.trips) (hg : Done fm bb ss (wid L) k.val g)
    (a14 y x : BitVec 32) (hw₁ : k0_chk1 x) (b : BitVec 32) (hw₂ : k0_chk2 y x b) (r : BitVec 32)
    (hY : y = boxAt bb (2 * (32 * wid L + k.val))) (hX : x = boxAt bb (2 * (32 * wid L + k.val) + 1)) (hB : b = sampleAt ss (32 * wid L + k.val))
    {hsw hdw} {α : Type} (kk : Prog (TpuEff nD τ sig (Elt F) Λ₀ (vT d L).2) α) (Q : α → sProp 𝕄) :
    iprop(Transfers.MayWaits (vT d L) none O ∗ (fmM.view.loc (vT d L) ↦{q} fm) ∗ (stageM.view.loc (vT d L) ↦{fullShare} f)
        ∗ (outM.view.loc (vT d L) ↦[outSet (wid L)]{fullShare} g)
        ∗ semVal (vT d L, .dma cc0_scoped2.sem) 0 ∗ semVal (vT d L, .dma cc0_scoped3.sem) 0 ∗ owed (vT d L) O W)
      ⊢ iprop(((fmM.view.loc (vT d L) ↦{q} fm) -∗ (∃ f : S256x16x24.Idx → Elt F .f32, stageM.view.loc (vT d L) ↦{fullShare} f)
            -∗ (∃ g : S1024x256x16x16.Idx → Elt F .f32, ⌜Done fm bb ss (wid L) (k.val + 1) g⌝ ∗ (outM.view.loc (vT d L) ↦[outSet (wid L)]{fullShare} g))
            -∗ semVal (vT d L, .dma cc0_scoped2.sem) 0 -∗ semVal (vT d L, .dma cc0_scoped3.sem) 0 -∗ owed (vT d L) O W
            -∗ wp frame (wpE (defs₀ (F := F)) 𝒱₀ (vT d L) none) Set.univ kk Q)
        -∗ wp frame (wpE (defs₀ (F := F)) 𝒱₀ (vT d L) none) Set.univ
          (k0_part8 (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v2 k a14 y x hw₁ b hw₂ r >>= fun _ =>
            .op (.waitDma2 cc0_scoped3.sem frontM (regionM (k0_off69 L k) (k0_off69_inb L k)) hsw hdw) fun _ => kk) Q) := by
  have hw := wid_lt L
  have hk := box_lt k
  have e69 : k0_off69 L k = ![32 * wid L + k.val, 0, 0, 0] :=
    (k0_off69_eq L k).trans (by rw [show 64 * (L 1).val + 32 * (L 0).val + k.val = 32 * wid L + k.val by unfold wid; omega])
  rw [k0_part8_eq_skeleton]
  unfold k0_part8_skel
  simp only [Prog.lift, Prog.bind_op, Prog.bind_ret, Prog.pure_eq_ret, bind_assoc]
  iintro ⟨#Hmw, Hfm, Hst, Hout, Hs2, Hs3, HO⟩ Hk
  iapply (fetch_step d L fm q f _ (k0_off4_inb y x b hw₂) b.toNat (clipN y) (clipN x / 8 * 8) (off4_eq y x b) O W) $$ [Hfm Hst Hs2 HO]
  · isplitr; · iexact Hmw
    isplitl [Hfm]; · iexact Hfm
    isplitl [Hst]; · iexact Hst
    isplitl [Hs2] <;> iassumption
  iintro Hfm Hst Hs2 HO
  iapply (shift_loop d L _ v2 k a14 y x hw₁ b hw₂ r (k0_t2_ok x hw₁) 0#32) $$ Hst
  iintro %acc Hst
  iapply (rest_loop d L x (k0_t3_ok x hw₁) acc)
  iintro %acc'
  iapply (region_step d L _ g _ (k0_off69_inb L k) (32 * wid L + k.val) e69 (by omega) (by omega) O W) $$ [Hst Hout Hs3 HO]
  · isplitr; · iexact Hmw
    isplitl [Hst]; · iexact Hst
    isplitl [Hout]; · iexact Hout
    isplitl [Hs3] <;> iassumption
  iintro Hst Hout Hs3 HO
  iapply Hk $$ Hfm [Hst] [Hout] Hs2 Hs3 HO
  · iexists _; iexact Hst
  · iexists _
    isplitr
    · ipureintro
      exact done_next fm bb ss (wid L) k.val g hg y x b hY hX hB
    · iexact Hout

set_option maxHeartbeats 4000000 in
/-- One trip of the regions' loop. -/
theorem box_trip [FloatOps F] (d : Dev nD) (L : grid0.Coords) (fm : S8x256x128x128.Idx → Elt F .f32) (bb : S2048.Idx → BitVec 32) (ss : S1024.Idx → BitVec 32)
    (hr : InRange bb ss) (q : PosShare TreeShare) (f8 : S80.Idx → BitVec 32) (f9 : S1040.Idx → BitVec 32) (ht : Tables bb ss (wid L) f8 f9)
    (O : CellTallies nD τ sig (HIx 1)) (W : Waits sig (HIx 1)) (v2 : BitVec 32) (k : Fin k0_t1_loop.trips) (acc : BitVec 32) :
    boxInv d L fm bb ss q f8 f9 O W k.val
      ⊢ wp frame (wpE (defs₀ (F := F)) 𝒱₀ (vT d L) none) Set.univ (k0_t1_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v2 k acc)
        fun _ => (boxInv d L fm bb ss q f8 f9 O W (k.val + 1) : sProp 𝕄) := by
  have hw := wid_lt L
  have hk := box_lt k
  have e3 : (![64 * (L 1).val + 32 * (L 0).val + k.val] : Fin 1 → ℕ) = ![32 * wid L + k.val] := by
    congr 1; unfold wid; omega
  have hY : extractAt ![0] (k0_pay30 (F := F) (boxM.view.readAt (Elt F) (Rect.unit (s := S80) (k0_off2 k) S16.size (k0_off2_inb k)).toLoadRect f8)) inpos_S1_p0
      = boxAt bb (2 * (32 * wid L + k.val)) := by
    rw [pay30_lane, box_lane f8 _ _ (2 * k.val) (k0_off2_eq k) 0 (by decide) (by omega)]
    exact (ht.box (2 * k.val) (by omega)).trans (congrArg (boxAt bb) (by omega))
  have hX : extractAt ![0] (k0_pay31 (F := F) (boxM.view.readAt (Elt F) (Rect.unit (s := S80) (k0_off2 k) S16.size (k0_off2_inb k)).toLoadRect f8)) inpos_S1_p0
      = boxAt bb (2 * (32 * wid L + k.val) + 1) := by
    rw [pay31_lane, box_lane f8 _ _ (2 * k.val) (k0_off2_eq k) 1 (by decide) (by omega)]
    exact (ht.box (2 * k.val + 1) (by omega)).trans (congrArg (boxAt bb) (by omega))
  have hB : extractAt ![0] (k0_pay32 (F := F) (smpM.view.readAt (Elt F) (Rect.unit (s := S1040) (k0_off3 L k) S16.size (k0_off3_inb L k)).toLoadRect f9)) inpos_S1_p0
      = sampleAt ss (32 * wid L + k.val) := by
    rw [pay32_lane, smp_lane f9 _ _ (32 * wid L + k.val) ((k0_off3_eq L k).trans e3) 0 (by decide) (by omega)]
    exact ht.smp (32 * wid L + k.val) (by omega)
  have hb8 := hr.smp (32 * wid L + k.val) (by omega)
  have hx := hr.col (32 * wid L + k.val) (by omega)
  unfold k0_t1_body
  rw [k0_part7_eq_skeleton]
  unfold k0_part7_skel
  simp only [Prog.lift, Prog.bind_op, Prog.bind_ret, Prog.pure_eq_ret]
  unfold boxInv
  iintro ⟨#Hmw, Hfm, H8, H9, ⟨%f, Hst⟩, ⟨%g, %hg, Hout⟩, Hs2, Hs3, HO⟩
  sl_step
  sl_step
  iapply (wp_assume 𝒱₀ (vT d L) none Set.univ (chk1_all _))
  iapply (wp_assume 𝒱₀ (vT d L) none Set.univ (chk2_of _ _ _ (lt_of_eq_of_lt (congrArg BitVec.toNat hB) hb8) (lt_of_eq_of_lt (congrArg BitVec.toInt hX) hx)))
  iapply (region_trip d L fm bb ss q f g O W v2 k hg _ _ _ _ _ _ _ hY hX hB (.ret 0#32)) $$ [Hfm Hst Hout Hs2 Hs3 HO]
  · isplitr; · iexact Hmw
    isplitl [Hfm]; · iexact Hfm
    isplitl [Hst]; · iexact Hst
    isplitl [Hout]; · iexact Hout
    isplitl [Hs2]; · iexact Hs2
    isplitl [Hs3] <;> iassumption
  iintro Hfm Hst Hout Hs2 Hs3 HO
  sl_step
  isplitr; · iexact Hmw
  isplitl [Hfm]; · iexact Hfm
  isplitl [H8]; · iexact H8
  isplitl [H9]; · iexact H9
  isplitl [Hst]; · iexact Hst
  isplitl [Hout]; · iexact Hout
  isplitl [Hs2]; · iexact Hs2
  isplitl [Hs3] <;> iassumption

/-- The regions' loop: all 32 regions of the tile hold their values. -/
theorem box_loop [FloatOps F] (d : Dev nD) (L : grid0.Coords) (fm : S8x256x128x128.Idx → Elt F .f32) (bb : S2048.Idx → BitVec 32) (ss : S1024.Idx → BitVec 32)
    (hr : InRange bb ss) (q : PosShare TreeShare) (f8 : S80.Idx → BitVec 32) (f9 : S1040.Idx → BitVec 32) (ht : Tables bb ss (wid L) f8 f9)
    (O : CellTallies nD τ sig (HIx 1)) (W : Waits sig (HIx 1)) (v2 : BitVec 32) (ok : k0_t1_loop.OK) (init : BitVec 32)
    {α : Type} (kk : BitVec 32 → Prog (TpuEff nD τ sig (Elt F) Λ₀ (vT d L).2) α) (Q : α → sProp 𝕄) :
    boxInv d L fm bb ss q f8 f9 O W 0
      ⊢ iprop((∀ acc, boxInv d L fm bb ss q f8 f9 O W 32 -∗ wp frame (wpE (defs₀ (F := F)) 𝒱₀ (vT d L) none) Set.univ (kk acc) Q)
        -∗ wp frame (wpE (defs₀ (F := F)) 𝒱₀ (vT d L) none) Set.univ (Scf.Loop.for k0_t1_loop ok init (k0_t1_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v2) >>= kk) Q) := by
  iintro H Hk
  iapply (Scf.wp_for_bind frame (wpE (defs₀ (F := F)) 𝒱₀ (vT d L) none) Set.univ _ _ _ ok init _
    (fun k _ => boxInv d L fm bb ss q f8 f9 O W k) (fun k acc => box_trip d L fm bb ss hr q f8 f9 ht O W v2 k acc)) $$ [H]
  · iexact H
  iintro %acc H
  iapply Hk $$ %acc
  rw [show Scf.trips k0_t1_loop.lb k0_t1_loop.ub k0_t1_loop.st = 32 by decide]
  iexact H

end Cert.Proof.RoiIdeal

end
-- ==== Proof.SearchIdeal.lean ====
/-
  The counts' searches: eight counted loops of ten halvings over the sample scratch, one per sample number, and the
  two stretches of the program that hold them. The value of a search is the pure iteration of its halving.
-/
module

public import proofs.«01_k».proof.Proof.BoxIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The search as a function -/

/-- The middle of a search's interval. -/
def midW (lo hi : BitVec 32) : BitVec 32 := Scalar.shrsi (Scalar.addi lo hi) 1#32

/-- One halving: the upper half is dropped where the middle sample exceeds `b`, the lower half otherwise. -/
def searchStep (ss : S1024.Idx → BitVec 32) (b : BitVec 32) (p : BitVec 32 × BitVec 32) : BitVec 32 × BitVec 32 :=
  (Scalar.select (Scalar.cmpi .sgt (sampleAt ss (midW p.1 p.2).toNat) b) p.1 (Scalar.addi (midW p.1 p.2) 1#32),
    Scalar.select (Scalar.cmpi .sgt (sampleAt ss (midW p.1 p.2).toNat) b) (midW p.1 p.2) p.2)

/-- The interval after `k` halvings of the whole table. -/
def searchN (ss : S1024.Idx → BitVec 32) (b : BitVec 32) : ℕ → BitVec 32 × BitVec 32
  | 0 => (0#32, 1024#32)
  | k + 1 => searchStep ss b (searchN ss b k)

/-- Where the search for `b` ends. -/
def boundOf (ss : S1024.Idx → BitVec 32) (b : BitVec 32) : BitVec 32 := (searchN ss b 10).1

/-- The middle of an interval within the table, in natural numbers. -/
theorem midW_toNat (lo hi : BitVec 32) (h : lo.toNat ≤ 1024) (h' : hi.toNat ≤ 1024) : (midW lo hi).toNat = (lo.toNat + hi.toNat) / 2 := by
  have hs : (lo + hi).toNat = lo.toNat + hi.toNat := by rw [BitVec.toNat_add, Nat.mod_eq_of_lt]; omega
  have hm : (lo + hi).msb = false := by
    rw [BitVec.msb_eq_false_iff_two_mul_lt, hs]; omega
  show (BitVec.sshiftRight (lo + hi) 1).toNat = _
  rw [BitVec.sshiftRight_eq_of_msb_false hm, BitVec.toNat_ushiftRight, hs, Nat.shiftRight_eq_div_pow]

/-- The successor of a middle, in natural numbers. -/
theorem mid_succ_toNat (m : BitVec 32) (h : m.toNat ≤ 1024) : (Scalar.addi m 1#32).toNat = m.toNat + 1 := by
  show (m + 1#32).toNat = _
  rw [BitVec.toNat_add, Nat.mod_eq_of_lt] <;> simp <;> omega

/-- A halving keeps an interval's length at a power of two or one below it, and halves that power. -/
theorem searchStep_len (ss : S1024.Idx → BitVec 32) (b lo hi : BitVec 32) (m : ℕ) (hm : 0 < m) (hh : hi.toNat ≤ 1024)
    (hl : hi.toNat = lo.toNat + 2 * m ∨ hi.toNat + 1 = lo.toNat + 2 * m) :
    (searchStep ss b (lo, hi)).2.toNat ≤ 1024 ∧ ((searchStep ss b (lo, hi)).2.toNat = (searchStep ss b (lo, hi)).1.toNat + m
      ∨ (searchStep ss b (lo, hi)).2.toNat + 1 = (searchStep ss b (lo, hi)).1.toNat + m) := by
  have hmid := midW_toNat lo hi (by omega) hh
  have hs := mid_succ_toNat (midW lo hi) (by omega)
  unfold searchStep
  unfold Scalar.select
  simp only
  split
  · omega
  · rw [hs]; omega

/-- The interval after `k` halvings. -/
theorem searchN_len (ss : S1024.Idx → BitVec 32) (b : BitVec 32) : ∀ k ≤ 10, (searchN ss b k).2.toNat ≤ 1024
    ∧ ((searchN ss b k).2.toNat = (searchN ss b k).1.toNat + 2 ^ (10 - k) ∨ (searchN ss b k).2.toNat + 1 = (searchN ss b k).1.toNat + 2 ^ (10 - k))
  | 0, _ => ⟨show (1024#32).toNat ≤ 1024 by decide, Or.inl (show (1024#32).toNat = (0#32).toNat + 2 ^ (10 - 0) by decide)⟩
  | k + 1, hk => by
    have ih := searchN_len ss b k (by omega)
    have hp : 2 ^ (10 - k) = 2 * 2 ^ (10 - (k + 1)) := by
      rw [show 10 - k = (10 - (k + 1)) + 1 by omega, Nat.pow_succ]; omega
    rw [hp] at ih
    exact searchStep_len ss b _ _ _ (Nat.two_pow_pos _) ih.1 ih.2

/-- Before each of the ten halvings the middle is a position of the table. -/
theorem searchN_mid (ss : S1024.Idx → BitVec 32) (b : BitVec 32) (k : ℕ) (hk : k < 10) : (midW (searchN ss b k).1 (searchN ss b k).2).toNat < 1024 := by
  have h := searchN_len ss b k (by omega)
  have hp : 2 ^ (10 - k) = 2 * 2 ^ (10 - (k + 1)) := by
    rw [show 10 - k = (10 - (k + 1)) + 1 by omega, Nat.pow_succ]; omega
  have hq := Nat.two_pow_pos (10 - (k + 1))
  rw [midW_toNat _ _ (by omega) h.1]
  omega

/-! ## A search's trip and loop -/

/-- One trip: the check passes, the middle sample is read, the interval is halved. -/
theorem search_trip [FloatOps F] (d : Dev nD) (L : grid0.Coords) (ss : S1024.Idx → BitVec 32) (f9 : S1040.Idx → BitVec 32)
    (h9 : ∀ (j : ℕ) (hj : j < 1024), f9 (at1 j (by omega)) = sampleAt ss j) (b lo hi : BitVec 32) (hm : (midW lo hi).toNat < 1024)
    (P : Prop) (dec : Decidable P) (hP : P) (hin : P → ∀ a, (![(midW lo hi).toNat] : Fin 1 → ℕ) a + S16.size a ≤ S1040.size a)
    (pay : Vec F S16 .i32 → IVec S1 32) (hpay : ∀ v, extractAt ![0] (pay v) inpos_S1_p0 = v (at1 0 (by decide))) :
    (smpM.view.loc (vT d L) ↦{fullShare} f9)
      ⊢ wp frame (wpE (defs₀ (F := F)) 𝒱₀ (vT d L) none) Set.univ
          (.op (.assume P dec) fun h => .op (.load smpM (Rect.unit (s := S1040) ![(midW lo hi).toNat] S16.size (hin h.down)).toLoadRect (View.loadsAt_vmem h_S16)) fun v =>
            .ret (Scalar.select (Scalar.cmpi .sgt (extractAt ![0] (pay v) inpos_S1_p0) b) lo (Scalar.addi (midW lo hi) 1#32),
              Scalar.select (Scalar.cmpi .sgt (extractAt ![0] (pay v) inpos_S1_p0) b) (midW lo hi) hi))
          fun r => (iprop(⌜r = searchStep ss b (lo, hi)⌝ ∗ (smpM.view.loc (vT d L) ↦{fullShare} f9)) : sProp 𝕄) := by
  iintro H
  iapply (wp_assume 𝒱₀ (vT d L) none Set.univ hP)
  sl_step
  sl_step
  isplitr
  · ipureintro
    have e : extractAt ![0] (pay (smpM.view.readAt (Elt F) (Rect.unit (s := S1040) ![(midW lo hi).toNat] S16.size (hin hP)).toLoadRect f9)) inpos_S1_p0
        = sampleAt ss (midW lo hi).toNat := by
      rw [hpay, smp_lane f9 _ _ (midW lo hi).toNat rfl 0 (by decide) (by omega)]
      exact h9 _ hm
    unfold searchStep
    rw [← e]
  · iassumption

/-- A search's loop ends at the iteration's end. -/
theorem search_loop [FloatOps F] (d : Dev nD) (L : grid0.Coords) (ss : S1024.Idx → BitVec 32) (f9 : S1040.Idx → BitVec 32) (b : BitVec 32)
    {lp : Scf.Loop 32} (hlp : Scf.trips lp.lb lp.ub lp.st = 10) (ok : lp.OK)
    (body : Fin lp.trips → BitVec 32 × BitVec 32 → Prog (TpuEff nD τ sig (Elt F) Λ₀ (vT d L).2) (BitVec 32 × BitVec 32))
    (hbody : ∀ k lo hi, (midW lo hi).toNat < 1024 → (smpM.view.loc (vT d L) ↦{fullShare} f9)
      ⊢ wp frame (wpE (defs₀ (F := F)) 𝒱₀ (vT d L) none) Set.univ (body k (lo, hi))
          fun r => (iprop(⌜r = searchStep ss b (lo, hi)⌝ ∗ (smpM.view.loc (vT d L) ↦{fullShare} f9)) : sProp 𝕄))
    {α : Type} (kk : BitVec 32 × BitVec 32 → Prog (TpuEff nD τ sig (Elt F) Λ₀ (vT d L).2) α) (Q : α → sProp 𝕄) :
    (smpM.view.loc (vT d L) ↦{fullShare} f9)
      ⊢ iprop(((smpM.view.loc (vT d L) ↦{fullShare} f9) -∗ wp frame (wpE (defs₀ (F := F)) 𝒱₀ (vT d L) none) Set.univ (kk (searchN ss b 10)) Q)
        -∗ wp frame (wpE (defs₀ (F := F)) 𝒱₀ (vT d L) none) Set.univ (Scf.Loop.for lp ok (0#32, 1024#32) body >>= kk) Q) := by
  have hI : ∀ (k : Fin (Scf.trips lp.lb lp.ub lp.st)) (acc : BitVec 32 × BitVec 32),
      iprop(⌜acc = searchN ss b k.val⌝ ∗ (smpM.view.loc (vT d L) ↦{fullShare} f9))
        ⊢ wp frame (wpE (defs₀ (F := F)) 𝒱₀ (vT d L) none) Set.univ (body k acc)
          fun r => (iprop(⌜r = searchN ss b (k.val + 1)⌝ ∗ (smpM.view.loc (vT d L) ↦{fullShare} f9)) : sProp 𝕄) := by
    intro k acc
    iintro ⟨%hacc, H⟩
    subst hacc
    iapply (hbody k _ _ (searchN_mid ss b k.val (lt_of_lt_of_eq k.isLt hlp))) $$ H
  iintro H Hk
  iapply (Scf.wp_for_bind frame (wpE (defs₀ (F := F)) 𝒱₀ (vT d L) none) Set.univ _ _ _ ok (0#32, 1024#32) _
    (fun k acc => iprop(⌜acc = searchN ss b k⌝ ∗ (smpM.view.loc (vT d L) ↦{fullShare} f9))) hI) $$ [H]
  · isplitr
    · ipureintro; rfl
    · iexact H
  iintro %acc ⟨%hacc, H⟩
  rw [hlp] at hacc
  subst hacc
  iapply Hk $$ H

/-! ## The eight searches -/

/-- The loaded sixteen words' first lane, as the search for sample 0 takes it. -/
theorem pay41_lane (v : Vec F S16 .i32) : extractAt ![0] (k0_pay41 (F := F) v) inpos_S1_p0 = v (at1 0 (by decide)) := by
  unfold k0_pay41
  exact lane_extract v 0 slices_S16_o0_S1 (by decide) shapeCasts_S16_S16 _

/-- A trip of the search for sample 0. -/
theorem trip_t4 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1)
    (k : Fin k0_t4_loop.trips) (lo hi : BitVec 32) (hm : (midW lo hi).toNat < 1024) :
    (smpM.view.loc (vT d L) ↦{fullShare} f9)
      ⊢ wp frame (wpE (defs₀ (F := F)) 𝒱₀ (vT d L) none) Set.univ (k0_t4_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 k (lo, hi))
          fun r => (iprop(⌜r = searchStep ss 0#32 (lo, hi)⌝ ∗ (smpM.view.loc (vT d L) ↦{fullShare} f9)) : sProp 𝕄) := by
  have hc : k0_chk3 L lo hi := by
    unfold k0_chk3
    intro _ a
    fin_cases a
    show (midW lo hi).toNat + 16 ≤ 1040
    omega
  unfold k0_t4_body
  simp only [Prog.lift, Prog.bind_op, Prog.bind_ret, Prog.pure_eq_ret]
  exact search_trip d L ss f9 h9 0#32 lo hi hm (k0_chk3 L lo hi) (k0_chk3.dec L lo hi) hc (fun h => h h1) (k0_pay41 (F := F)) pay41_lane

/-- The loaded sixteen words' first lane, as the search for sample 1 takes it. -/
theorem pay42_lane (v : Vec F S16 .i32) : extractAt ![0] (k0_pay42 (F := F) v) inpos_S1_p0 = v (at1 0 (by decide)) := by
  unfold k0_pay42
  exact lane_extract v 0 slices_S16_o0_S1 (by decide) shapeCasts_S16_S16 _

/-- A trip of the search for sample 1. -/
theorem trip_t5 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1)
    (k : Fin k0_t5_loop.trips) (lo hi : BitVec 32) (hm : (midW lo hi).toNat < 1024) :
    (smpM.view.loc (vT d L) ↦{fullShare} f9)
      ⊢ wp frame (wpE (defs₀ (F := F)) 𝒱₀ (vT d L) none) Set.univ (k0_t5_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 k (lo, hi))
          fun r => (iprop(⌜r = searchStep ss 1#32 (lo, hi)⌝ ∗ (smpM.view.loc (vT d L) ↦{fullShare} f9)) : sProp 𝕄) := by
  have hc : k0_chk4 L lo hi := by
    unfold k0_chk4
    intro _ a
    fin_cases a
    show (midW lo hi).toNat + 16 ≤ 1040
    omega
  unfold k0_t5_body
  simp only [Prog.lift, Prog.bind_op, Prog.bind_ret, Prog.pure_eq_ret]
  exact search_trip d L ss f9 h9 1#32 lo hi hm (k0_chk4 L lo hi) (k0_chk4.dec L lo hi) hc (fun h => h h1) (k0_pay42 (F := F)) pay42_lane

/-- The loaded sixteen words' first lane, as the search for sample 2 takes it. -/
theorem pay43_lane (v : Vec F S16 .i32) : extractAt ![0] (k0_pay43 (F := F) v) inpos_S1_p0 = v (at1 0 (by decide)) := by
  unfold k0_pay43
  exact lane_extract v 0 slices_S16_o0_S1 (by decide) shapeCasts_S16_S16 _

/-- A trip of the search for sample 2. -/
theorem trip_t6 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1)
    (k : Fin k0_t6_loop.trips) (lo hi : BitVec 32) (hm : (midW lo hi).toNat < 1024) :
    (smpM.view.loc (vT d L) ↦{fullShare} f9)
      ⊢ wp frame (wpE (defs₀ (F := F)) 𝒱₀ (vT d L) none) Set.univ (k0_t6_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 k (lo, hi))
          fun r => (iprop(⌜r = searchStep ss 2#32 (lo, hi)⌝ ∗ (smpM.view.loc (vT d L) ↦{fullShare} f9)) : sProp 𝕄) := by
  have hc : k0_chk5 L lo hi := by
    unfold k0_chk5
    intro _ a
    fin_cases a
    show (midW lo hi).toNat + 16 ≤ 1040
    omega
  unfold k0_t6_body
  simp only [Prog.lift, Prog.bind_op, Prog.bind_ret, Prog.pure_eq_ret]
  exact search_trip d L ss f9 h9 2#32 lo hi hm (k0_chk5 L lo hi) (k0_chk5.dec L lo hi) hc (fun h => h h1) (k0_pay43 (F := F)) pay43_lane

/-- The loaded sixteen words' first lane, as the search for sample 3 takes it. -/
theorem pay44_lane (v : Vec F S16 .i32) : extractAt ![0] (k0_pay44 (F := F) v) inpos_S1_p0 = v (at1 0 (by decide)) := by
  unfold k0_pay44
  exact lane_extract v 0 slices_S16_o0_S1 (by decide) shapeCasts_S16_S16 _

/-- A trip of the search for sample 3. -/
theorem trip_t7 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1)
    (k : Fin k0_t7_loop.trips) (lo hi : BitVec 32) (hm : (midW lo hi).toNat < 1024) :
    (smpM.view.loc (vT d L) ↦{fullShare} f9)
      ⊢ wp frame (wpE (defs₀ (F := F)) 𝒱₀ (vT d L) none) Set.univ (k0_t7_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 k (lo, hi))
          fun r => (iprop(⌜r = searchStep ss 3#32 (lo, hi)⌝ ∗ (smpM.view.loc (vT d L) ↦{fullShare} f9)) : sProp 𝕄) := by
  have hc : k0_chk6 L lo hi := by
    unfold k0_chk6
    intro _ a
    fin_cases a
    show (midW lo hi).toNat + 16 ≤ 1040
    omega
  unfold k0_t7_body
  simp only [Prog.lift, Prog.bind_op, Prog.bind_ret, Prog.pure_eq_ret]
  exact search_trip d L ss f9 h9 3#32 lo hi hm (k0_chk6 L lo hi) (k0_chk6.dec L lo hi) hc (fun h => h h1) (k0_pay44 (F := F)) pay44_lane

/-- The loaded sixteen words' first lane, as the search for sample 4 takes it. -/
theorem pay46_lane (v : Vec F S16 .i32) : extractAt ![0] (k0_pay46 (F := F) v) inpos_S1_p0 = v (at1 0 (by decide)) := by
  unfold k0_pay46
  exact lane_extract v 0 slices_S16_o0_S1 (by decide) shapeCasts_S16_S16 _

/-- A trip of the search for sample 4. -/
theorem trip_t8 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1) (u : BitVec 32) (v : IVec S16 32)
    (k : Fin k0_t8_loop.trips) (lo hi : BitVec 32) (hm : (midW lo hi).toNat < 1024) :
    (smpM.view.loc (vT d L) ↦{fullShare} f9)
      ⊢ wp frame (wpE (defs₀ (F := F)) 𝒱₀ (vT d L) none) Set.univ (k0_t8_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 u v k (lo, hi))
          fun r => (iprop(⌜r = searchStep ss 4#32 (lo, hi)⌝ ∗ (smpM.view.loc (vT d L) ↦{fullShare} f9)) : sProp 𝕄) := by
  have hc : k0_chk7 L lo hi := by
    unfold k0_chk7
    intro _ a
    fin_cases a
    show (midW lo hi).toNat + 16 ≤ 1040
    omega
  unfold k0_t8_body
  simp only [Prog.lift, Prog.bind_op, Prog.bind_ret, Prog.pure_eq_ret]
  exact search_trip d L ss f9 h9 4#32 lo hi hm (k0_chk7 L lo hi) (k0_chk7.dec L lo hi) hc (fun h => h h1) (k0_pay46 (F := F)) pay46_lane

/-- The loaded sixteen words' first lane, as the search for sample 5 takes it. -/
theorem pay47_lane (v : Vec F S16 .i32) : extractAt ![0] (k0_pay47 (F := F) v) inpos_S1_p0 = v (at1 0 (by decide)) := by
  unfold k0_pay47
  exact lane_extract v 0 slices_S16_o0_S1 (by decide) shapeCasts_S16_S16 _

/-- A trip of the search for sample 5. -/
theorem trip_t9 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1) (u : BitVec 32) (v : IVec S16 32)
    (k : Fin k0_t9_loop.trips) (lo hi : BitVec 32) (hm : (midW lo hi).toNat < 1024) :
    (smpM.view.loc (vT d L) ↦{fullShare} f9)
      ⊢ wp frame (wpE (defs₀ (F := F)) 𝒱₀ (vT d L) none) Set.univ (k0_t9_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 u v k (lo, hi))
          fun r => (iprop(⌜r = searchStep ss 5#32 (lo, hi)⌝ ∗ (smpM.view.loc (vT d L) ↦{fullShare} f9)) : sProp 𝕄) := by
  have hc : k0_chk8 L lo hi := by
    unfold k0_chk8
    intro _ a
    fin_cases a
    show (midW lo hi).toNat + 16 ≤ 1040
    omega
  unfold k0_t9_body
  simp only [Prog.lift, Prog.bind_op, Prog.bind_ret, Prog.pure_eq_ret]
  exact search_trip d L ss f9 h9 5#32 lo hi hm (k0_chk8 L lo hi) (k0_chk8.dec L lo hi) hc (fun h => h h1) (k0_pay47 (F := F)) pay47_lane

/-- The loaded sixteen words' first lane, as the search for sample 6 takes it. -/
theorem pay48_lane (v : Vec F S16 .i32) : extractAt ![0] (k0_pay48 (F := F) v) inpos_S1_p0 = v (at1 0 (by decide)) := by
  unfold k0_pay48
  exact lane_extract v 0 slices_S16_o0_S1 (by decide) shapeCasts_S16_S16 _

/-- A trip of the search for sample 6. -/
theorem trip_t10 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1) (u : BitVec 32) (v : IVec S16 32)
    (k : Fin k0_t10_loop.trips) (lo hi : BitVec 32) (hm : (midW lo hi).toNat < 1024) :
    (smpM.view.loc (vT d L) ↦{fullShare} f9)
      ⊢ wp frame (wpE (defs₀ (F := F)) 𝒱₀ (vT d L) none) Set.univ (k0_t10_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 u v k (lo, hi))
          fun r => (iprop(⌜r = searchStep ss 6#32 (lo, hi)⌝ ∗ (smpM.view.loc (vT d L) ↦{fullShare} f9)) : sProp 𝕄) := by
  have hc : k0_chk9 L lo hi := by
    unfold k0_chk9
    intro _ a
    fin_cases a
    show (midW lo hi).toNat + 16 ≤ 1040
    omega
  unfold k0_t10_body
  simp only [Prog.lift, Prog.bind_op, Prog.bind_ret, Prog.pure_eq_ret]
  exact search_trip d L ss f9 h9 6#32 lo hi hm (k0_chk9 L lo hi) (k0_chk9.dec L lo hi) hc (fun h => h h1) (k0_pay48 (F := F)) pay48_lane

/-- The loaded sixteen words' first lane, as the search for sample 7 takes it. -/
theorem pay49_lane (v : Vec F S16 .i32) : extractAt ![0] (k0_pay49 (F := F) v) inpos_S1_p0 = v (at1 0 (by decide)) := by
  unfold k0_pay49
  exact lane_extract v 0 slices_S16_o0_S1 (by decide) shapeCasts_S16_S16 _

/-- A trip of the search for sample 7. -/
theorem trip_t11 [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1) (u : BitVec 32) (v : IVec S16 32)
    (k : Fin k0_t11_loop.trips) (lo hi : BitVec 32) (hm : (midW lo hi).toNat < 1024) :
    (smpM.view.loc (vT d L) ↦{fullShare} f9)
      ⊢ wp frame (wpE (defs₀ (F := F)) 𝒱₀ (vT d L) none) Set.univ (k0_t11_body (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 u v k (lo, hi))
          fun r => (iprop(⌜r = searchStep ss 7#32 (lo, hi)⌝ ∗ (smpM.view.loc (vT d L) ↦{fullShare} f9)) : sProp 𝕄) := by
  have hc : k0_chk10 L lo hi := by
    unfold k0_chk10
    intro _ a
    fin_cases a
    show (midW lo hi).toNat + 16 ≤ 1040
    omega
  unfold k0_t11_body
  simp only [Prog.lift, Prog.bind_op, Prog.bind_ret, Prog.pure_eq_ret]
  exact search_trip d L ss f9 h9 7#32 lo hi hm (k0_chk10 L lo hi) (k0_chk10.dec L lo hi) hc (fun h => h h1) (k0_pay49 (F := F)) pay49_lane

/-- The searches for samples 0 to 3, one after the other. -/
theorem part9_step [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1)
    {α : Type} (kk : _ → Prog (TpuEff nD τ sig (Elt F) Λ₀ (vT d L).2) α) (Q : α → sProp 𝕄) :
    (smpM.view.loc (vT d L) ↦{fullShare} f9)
      ⊢ iprop(((smpM.view.loc (vT d L) ↦{fullShare} f9) -∗ wp frame (wpE (defs₀ (F := F)) 𝒱₀ (vT d L) none) Set.univ (kk ⟨boundOf ss 3#32, k0_pay45 v6 (boundOf ss 0#32) (boundOf ss 1#32) (boundOf ss 2#32) (boundOf ss 3#32)⟩) Q)
        -∗ wp frame (wpE (defs₀ (F := F)) 𝒱₀ (vT d L) none) Set.univ (k0_part9 (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 >>= kk) Q) := by
  rw [k0_part9_eq_skeleton]
  unfold k0_part9_skel
  simp only [Prog.lift, Prog.bind_op, Prog.bind_ret, Prog.pure_eq_ret, bind_assoc]
  iintro H Hk
  iapply (search_loop d L ss f9 0#32 (lp := k0_t4_loop) (by decide) _ _ (fun k lo hi hm => trip_t4 d L ss f9 h9 v6 h1 k lo hi hm)) $$ H
  iintro H
  iapply (search_loop d L ss f9 1#32 (lp := k0_t5_loop) (by decide) _ _ (fun k lo hi hm => trip_t5 d L ss f9 h9 v6 h1 k lo hi hm)) $$ H
  iintro H
  iapply (search_loop d L ss f9 2#32 (lp := k0_t6_loop) (by decide) _ _ (fun k lo hi hm => trip_t6 d L ss f9 h9 v6 h1 k lo hi hm)) $$ H
  iintro H
  iapply (search_loop d L ss f9 3#32 (lp := k0_t7_loop) (by decide) _ _ (fun k lo hi hm => trip_t7 d L ss f9 h9 v6 h1 k lo hi hm)) $$ H
  iintro H
  iapply Hk $$ H

/-- The searches for samples 4 to 7, one after the other. -/
theorem part10_step [FloatOps F] (d : Dev nD) (L : grid0.Coords) (ss : S1024.Idx → BitVec 32) (f9 : S1040.Idx → BitVec 32)
    (h9 : ∀ (j : ℕ) (hj : j < 1024), f9 (at1 j (by omega)) = sampleAt ss j) (v6 : IVec S16 32) (h1 : k0_cond1 L = 1#1) (u : BitVec 32) (v : IVec S16 32) (f11 : S16.Idx → BitVec 32)
    {α : Type} (kk : _ → Prog (TpuEff nD τ sig (Elt F) Λ₀ (vT d L).2) α) (Q : α → sProp 𝕄) :
    iprop((smpM.view.loc (vT d L) ↦{fullShare} f9) ∗ (numM.view.loc (vT d L) ↦{fullShare} f11))
      ⊢ iprop(((smpM.view.loc (vT d L) ↦{fullShare} f9) -∗ (numM.view.loc (vT d L) ↦{fullShare} f11) -∗ wp frame (wpE (defs₀ (F := F)) 𝒱₀ (vT d L) none) Set.univ (kk (k0_pay50 v6 u v (boundOf ss 4#32) (boundOf ss 5#32) (boundOf ss 6#32) (boundOf ss 7#32))) Q)
        -∗ wp frame (wpE (defs₀ (F := F)) 𝒱₀ (vT d L) none) Set.univ (k0_part10 (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 v6 h1 u v >>= kk) Q) := by
  rw [k0_part10_eq_skeleton]
  unfold k0_part10_skel
  simp only [Prog.lift, Prog.bind_op, Prog.bind_ret, Prog.pure_eq_ret, bind_assoc]
  iintro ⟨H, H11⟩ Hk
  iapply (search_loop d L ss f9 4#32 (lp := k0_t8_loop) (by decide) _ _ (fun k lo hi hm => trip_t8 d L ss f9 h9 v6 h1 u v k lo hi hm)) $$ H
  iintro H
  iapply (search_loop d L ss f9 5#32 (lp := k0_t9_loop) (by decide) _ _ (fun k lo hi hm => trip_t9 d L ss f9 h9 v6 h1 u v k lo hi hm)) $$ H
  iintro H
  iapply (search_loop d L ss f9 6#32 (lp := k0_t10_loop) (by decide) _ _ (fun k lo hi hm => trip_t10 d L ss f9 h9 v6 h1 u v k lo hi hm)) $$ H
  iintro H
  iapply (search_loop d L ss f9 7#32 (lp := k0_t11_loop) (by decide) _ _ (fun k lo hi hm => trip_t11 d L ss f9 h9 v6 h1 u v k lo hi hm)) $$ H
  iintro H
  sl_step
  iapply Hk $$ H H11

end Cert.Proof.RoiIdeal

end
-- ==== Proof.TablesIdeal.lean ====
/-
  The two index tables fetched into a tile's scratch, the regions' loop after them: a tile up to its thirty-two
  regions written.
-/
module

public import proofs.«01_k».proof.Proof.SearchIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Stretches of flat arrays -/

/-- A flat index is its one coordinate. -/
theorem at1_eta {n : ℕ} (y : (⟨1, ![n]⟩ : Shape).Idx) (h : (y 0).val < n) : at1 (y 0).val h = y := by
  funext a; apply Fin.ext; fin_cases a; rfl

/-- Where a stretch's index lies in the array. -/
theorem band_emb {n m : ℕ} (o : Fin 1 → ℕ) (h : ∀ a, o a + (⟨1, ![m]⟩ : Shape).size a ≤ (⟨1, ![n]⟩ : Shape).size a) (p : ℕ) (e : o = ![p])
    (j : ℕ) (hj : j < m) (hn : p + j < n) :
    (Rect.unit (s := ⟨1, ![n]⟩) o (⟨1, ![m]⟩ : Shape).size h).emb (at1 j hj) = at1 (p + j) hn := by
  subst e
  funext a; apply Fin.ext; fin_cases a
  show p + 1 * j = p + j
  rw [Nat.one_mul]

/-- The corners a tile fetches. -/
abbrev cornersM (o : Fin 1 → ℕ) (h : ∀ a, o a + S64.size a ≤ S2048.size a) : Memref sig .scVector .hbm S64 .i32 :=
  bbM.slice (Rect.unit (s := S2048) o S64.size h) (fun _ => rfl)

/-- The part of the corner scratch they fill. -/
abbrev boxFrontM : Memref sig .scVector .vmem S64 .i32 :=
  boxM.slice (Rect.unit (s := S80) ![0] S64.size inb_S80_S64_0) (fun _ => rfl)

/-- The part of the sample scratch the sample table fills. -/
abbrev smpFrontM : Memref sig .scVector .vmem S1024 .i32 :=
  smpM.slice (Rect.unit (s := S1040) ![0] S1024.size inb_S1040_S1024_0) (fun _ => rfl)

/-- The corners fetched, as they stand in the scratch. -/
theorem corners_value (f : S80.Idx → BitVec 32) (bb : S2048.Idx → BitVec 32) (o : Fin 1 → ℕ) (h : ∀ a, o a + S64.size a ≤ S2048.size a) (w : ℕ) (hw : w < 32)
    (e : o = ![64 * w]) (j : ℕ) (hj : j < 64) :
    boxFrontM.view.write (Elt F) f ((cornersM o h).view.read (Elt F) bb) Finset.univ (at1 j (by omega)) = boxAt bb (64 * w + j) := by
  have e1 : boxFrontM.view.emb (at1 j hj) = at1 j (by omega) :=
    (band_emb (n := 80) (m := 64) ![0] inb_S80_S64_0 0 rfl j hj (by omega)).trans (by congr 1; omega)
  have e2 : (cornersM o h).view.emb (at1 j hj) = at1 (64 * w + j) (by omega) :=
    band_emb (n := 2048) (m := 64) o h (64 * w) e j hj (by omega)
  refine (congrArg (boxFrontM.view.write (Elt F) f ((cornersM o h).view.read (Elt F) bb) Finset.univ) e1).symm.trans ?_
  refine (View.write_emb_of_mem (Val := Elt F) (v := boxFrontM.view) f _ (Finset.mem_univ (at1 j hj))).trans ?_
  refine (show _ = bb ((cornersM o h).view.emb (at1 j hj)) from rfl).trans ?_
  rw [e2]
  unfold boxAt
  congr 1
  funext a; apply Fin.ext; fin_cases a
  show 64 * w + j = (64 * w + j) % 2048
  omega

/-- The sample table fetched, as it stands in the scratch. -/
theorem samples_value (f : S1040.Idx → BitVec 32) (ss : S1024.Idx → BitVec 32) (j : ℕ) (hj : j < 1024) :
    smpFrontM.view.write (Elt F) f (asM.view.read (Elt F) ss) Finset.univ (at1 j (by omega)) = sampleAt ss j := by
  have e1 : smpFrontM.view.emb (at1 j hj) = at1 j (by omega) :=
    (band_emb (n := 1040) (m := 1024) ![0] inb_S1040_S1024_0 0 rfl j hj (by omega)).trans (by congr 1; omega)
  refine (congrArg (smpFrontM.view.write (Elt F) f (asM.view.read (Elt F) ss) Finset.univ) e1).symm.trans ?_
  refine (View.write_emb_of_mem (Val := Elt F) (v := smpFrontM.view) f _ (Finset.mem_univ (at1 j hj))).trans ?_
  refine (show _ = ss (at1 j hj) from rfl).trans ?_
  unfold sampleAt
  congr 1
  funext a; apply Fin.ext; fin_cases a
  show j = j % 1024
  omega

/-! ## The two fetches and the regions -/

/-- What a tile holds throughout: its read shares, its part of the regions, its scratch and its semaphores, before
    any of its copies. -/
def tilePre (d : Dev nD) (L : grid0.Coords) (fm : S8x256x128x128.Idx → Elt F .f32) (bb : S2048.Idx → BitVec 32) (ss : S1024.Idx → BitVec 32)
    (q : PosShare TreeShare) (g : S1024x256x16x16.Idx → Elt F .f32) (O : CellTallies nD τ sig (HIx 1)) (W : Waits sig (HIx 1)) : sProp 𝕄 :=
  iprop(Transfers.MayWaits (vT d L) none O ∗ (fmM.view.loc (vT d L) ↦{q} fm) ∗ (bbM.view.loc (vT d L) ↦{q} bb) ∗ (asM.view.loc (vT d L) ↦{q} ss)
    ∗ (outM.view.loc (vT d L) ↦[outSet (wid L)]{fullShare} g)
    ∗ (∃ f, boxM.view.loc (vT d L) ↦{fullShare} f) ∗ (∃ f, smpM.view.loc (vT d L) ↦{fullShare} f) ∗ (∃ f, stageM.view.loc (vT d L) ↦{fullShare} f)
    ∗ semVal (vT d L, .dma cc0_scoped0.sem) 0 ∗ semVal (vT d L, .dma cc0_scoped1.sem) 0
    ∗ semVal (vT d L, .dma cc0_scoped2.sem) 0 ∗ semVal (vT d L, .dma cc0_scoped3.sem) 0 ∗ owed (vT d L) O W)

/-- What it holds once its regions are written. -/
def tileMid (d : Dev nD) (L : grid0.Coords) (fm : S8x256x128x128.Idx → Elt F .f32) (bb : S2048.Idx → BitVec 32) (ss : S1024.Idx → BitVec 32)
    (q : PosShare TreeShare) (f8 : S80.Idx → BitVec 32) (f9 : S1040.Idx → BitVec 32) (O : CellTallies nD τ sig (HIx 1)) (W : Waits sig (HIx 1)) : sProp 𝕄 :=
  iprop((bbM.view.loc (vT d L) ↦{q} bb) ∗ (asM.view.loc (vT d L) ↦{q} ss)
    ∗ semVal (vT d L, .dma cc0_scoped0.sem) 0 ∗ semVal (vT d L, .dma cc0_scoped1.sem) 0
    ∗ boxInv d L fm bb ss q f8 f9 O W 32)

/-- The words the first of the sixteen loaded words' lanes give. -/
theorem part11_step [FloatOps F] (d : Dev nD) (L : grid0.Coords) (fm : S8x256x128x128.Idx → Elt F .f32) (bb : S2048.Idx → BitVec 32) (ss : S1024.Idx → BitVec 32)
    (hr : InRange bb ss) (q : PosShare TreeShare) (g : S1024x256x16x16.Idx → Elt F .f32)
    (O : CellTallies nD τ sig (HIx 1)) (W : Waits sig (HIx 1))
    {α : Type} (kk : _ → Prog (TpuEff nD τ sig (Elt F) Λ₀ (vT d L).2) α) (Q : α → sProp 𝕄) :
    tilePre d L fm bb ss q g O W
      ⊢ iprop((∀ (f8 : S80.Idx → BitVec 32) (f9 : S1040.Idx → BitVec 32) (v1 v2 : BitVec 32), ⌜Tables bb ss (wid L) f8 f9⌝ -∗ tileMid d L fm bb ss q f8 f9 O W
            -∗ wp frame (wpE (defs₀ (F := F)) 𝒱₀ (vT d L) none) Set.univ (kk ⟨v1, v2, iota .scVector S16 32 [0] iota_S16_d0_w32_scVector, k0_pay51, k0_pay52, k0_pay53,
              k0_pay54 (F := F) (boxM.view.readAt (Elt F) (Rect.unit (s := S80) ![0] S16.size inb_S80_S16_0).toLoadRect f8),
              extractAt ![0] (k0_pay56 (F := F) (boxM.view.readAt (Elt F) (Rect.unit (s := S80) ![0] S16.size inb_S80_S16_0).toLoadRect f8)) inpos_S1_p0,
              Scalar.maxsi (extractAt ![0] (k0_pay55 (F := F) (boxM.view.readAt (Elt F) (Rect.unit (s := S80) ![0] S16.size inb_S80_S16_0).toLoadRect f8)) inpos_S1_p0) 0#32, 112#32⟩) Q)
        -∗ wp frame (wpE (defs₀ (F := F)) 𝒱₀ (vT d L) none) Set.univ (k0_part11 (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 >>= kk) Q) := by
  have hw := wid_lt L
  have e1 : k0_off1 L = ![64 * wid L] := (k0_off1_eq L).trans (by congr 1; unfold wid; omega)
  rw [k0_part11_eq_skeleton]
  unfold k0_part11_skel
  simp only [Prog.lift, Prog.bind_op, Prog.bind_ret, Prog.pure_eq_ret, bind_assoc]
  unfold tilePre
  iintro ⟨#Hmw, Hfm, Hbb, Has, Hout, ⟨%f8, H8⟩, ⟨%f9, H9⟩, Hst, Hs0, Hs1, Hs2, Hs3, HO⟩ Hk
  iapply (wp_copy (F := F) (d := d) (L := L) (src := cornersM (k0_off1 L) (k0_off1_inb L)) (dst := boxFrontM) (sem := cc0_scoped0.sem) (q := q)
    (Ss := Finset.univ) (fs := bb) (Sd := Finset.univ) (fd := f8) _ _ (by decide) rfl (Finset.subset_univ _) (Finset.subset_univ _)) $$ [Hbb H8 Hs0 HO]
  · isplitr; · iexact Hmw
    isplitl [Hbb]; · iexact Hbb
    isplitl [H8]; · iexact H8
    isplitl [Hs0] <;> iassumption
  iintro Hbb H8 Hs0 HO
  iapply (wp_copy (F := F) (d := d) (L := L) (src := asM) (dst := smpFrontM) (sem := cc0_scoped1.sem) (q := q)
    (Ss := Finset.univ) (fs := ss) (Sd := Finset.univ) (fd := f9) _ _ (by decide) rfl (Finset.subset_univ _) (Finset.subset_univ _)) $$ [Has H9 Hs1 HO]
  · isplitr; · iexact Hmw
    isplitl [Has]; · iexact Has
    isplitl [H9]; · iexact H9
    isplitl [Hs1] <;> iassumption
  iintro Has H9 Hs1 HO
  have ht : Tables bb ss (wid L) (boxFrontM.view.write (Elt F) f8 ((cornersM (k0_off1 L) (k0_off1_inb L)).view.read (Elt F) bb) Finset.univ)
      (smpFrontM.view.write (Elt F) f9 (asM.view.read (Elt F) ss) Finset.univ) :=
    ⟨fun j hj => corners_value f8 bb _ _ (wid L) hw e1 j hj, fun j hj => samples_value f9 ss j hj⟩
  iapply (box_loop d L fm bb ss hr q _ _ ht O W _ _ _) $$ [Hfm H8 H9 Hst Hout Hs2 Hs3 HO]
  · unfold boxInv
    isplitr; · iexact Hmw
    isplitl [Hfm]; · iexact Hfm
    isplitl [H8]; · iexact H8
    isplitl [H9]; · iexact H9
    isplitl [Hst]; · iexact Hst
    isplitl [Hout]
    · iexists g
      isplitr
      · ipureintro
        intro y h₁ h₂
        omega
      · iexact Hout
    isplitl [Hs2]; · iexact Hs2
    isplitl [Hs3] <;> iassumption
  iintro %acc H
  unfold boxInv
  icases H with ⟨-, Hfm, H8, H9, Hst, Hout, Hs2, Hs3, HO⟩
  sl_step
  iapply Hk $$ %_ %_ %_ %_ [] [Hfm Hbb Has H8 H9 Hst Hout Hs0 Hs1 Hs2 Hs3 HO]
  · ipureintro; exact ht
  · unfold tileMid boxInv
    isplitl [Hbb]; · iexact Hbb
    isplitl [Has]; · iexact Has
    isplitl [Hs0]; · iexact Hs0
    isplitl [Hs1]; · iexact Hs1
    isplitr; · iexact Hmw
    isplitl [Hfm]; · iexact Hfm
    isplitl [H8]; · iexact H8
    isplitl [H9]; · iexact H9
    isplitl [Hst]; · iexact Hst
    isplitl [Hout]; · iexact Hout
    isplitl [Hs2]; · iexact Hs2
    isplitl [Hs3] <;> iassumption

end Cert.Proof.RoiIdeal

end
-- ==== Proof.TrackIdeal.lean ====
/-
  The boxes' rows: every region's clipped corner and the corner sixteen further, sixteen words at a time in the row
  scratch, then the tile's 128 words copied to the second result.
-/
module

public import proofs.«01_k».proof.Proof.TablesIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Four words of a box -/

/-- The four words of a box with clipped corner `(y, x)`. -/
def pick4 (y x : BitVec 32) (r : ℕ) : BitVec 32 :=
  if r = 0 then y else if r = 1 then x else if r = 2 then Scalar.addi y 16#32 else Scalar.addi x 16#32

/-- Word `n` of the second result. -/
def trackN (bb : S2048.Idx → BitVec 32) (n : ℕ) : BitVec 32 := pick4 (clipW (boxAt bb (2 * (n / 4)))) (clipW (boxAt bb (2 * (n / 4) + 1))) (n % 4)

/-- The second result. -/
def trackV (bb : S2048.Idx → BitVec 32) : S4096.Idx → BitVec 32 := fun y => trackN bb (y 0).val

/-- One box's words over the sixteen lanes, as the kernel chooses them. -/
def quadV (y x : BitVec 32) : IVec S16 32 :=
  select (cmpi .eq k0_pay51 (broadcast S16 0#32)) (broadcast S16 y)
    (select (cmpi .eq k0_pay51 (broadcast S16 1#32)) (broadcast S16 x)
      (select (cmpi .eq k0_pay51 (broadcast S16 2#32)) (broadcast S16 (Scalar.addi y 16#32)) (broadcast S16 (Scalar.addi x 16#32))))

/-- Four boxes' words over the sixteen lanes, as the kernel chooses them. -/
def fourV (y₀ x₀ y₁ x₁ y₂ x₂ y₃ x₃ : BitVec 32) : IVec S16 32 :=
  select (cmpi .eq k0_pay52 (broadcast S16 3#32)) (quadV y₃ x₃)
    (select (cmpi .eq k0_pay52 (broadcast S16 2#32)) (quadV y₂ x₂)
      (select (cmpi .eq k0_pay52 (broadcast S16 1#32)) (quadV y₁ x₁)
        (select (cmpi .eq k0_pay52 (broadcast S16 0#32)) (quadV y₀ x₀)
          (muli (iota .scVector S16 32 [0] iota_S16_d0_w32_scVector) (broadcast S16 0#32)))))

/-- A loaded word, as the kernel takes it out of sixteen. -/
def wordV (v : IVec S16 32) (k : ℕ) (h : S16.Slices ![k] S1) : BitVec 32 :=
  extractAt ![0] (extractStridedSlice S1 ![k] (shapeCast S16 v shapeCasts_S16_S16) h) inpos_S1_p0

/-- Sixteen words of the row scratch from sixteen loaded words. -/
def chunkV (v : IVec S16 32) : IVec S16 32 :=
  shapeCast S16 (fourV (clipW (wordV v 0 slices_S16_o0_S1)) (clipW (wordV v 1 slices_S16_o1_S1))
    (clipW (wordV v 2 slices_S16_o2_S1)) (clipW (wordV v 3 slices_S16_o3_S1))
    (clipW (wordV v 4 slices_S16_o4_S1)) (clipW (wordV v 5 slices_S16_o5_S1))
    (clipW (wordV v 6 slices_S16_o6_S1)) (clipW (wordV v 7 slices_S16_o7_S1))) shapeCasts_S16_S16

/-- The four boxes' words, lane by lane. -/
theorem fourV_lane (y₀ x₀ y₁ x₁ y₂ x₂ y₃ x₃ : BitVec 32) (l : ℕ) (hl : l < 16) :
    fourV y₀ x₀ y₁ x₁ y₂ x₂ y₃ x₃ (at1 l hl)
      = pick4 (if l / 4 = 0 then y₀ else if l / 4 = 1 then y₁ else if l / 4 = 2 then y₂ else y₃)
          (if l / 4 = 0 then x₀ else if l / 4 = 1 then x₁ else if l / 4 = 2 then x₂ else x₃) (l % 4) := by
  have h : ∀ l : Fin 16, fourV y₀ x₀ y₁ x₁ y₂ x₂ y₃ x₃ (at1 l.val l.isLt)
      = pick4 (if l.val / 4 = 0 then y₀ else if l.val / 4 = 1 then y₁ else if l.val / 4 = 2 then y₂ else y₃)
          (if l.val / 4 = 0 then x₀ else if l.val / 4 = 1 then x₁ else if l.val / 4 = 2 then x₂ else x₃) (l.val % 4) := by
    intro l
    fin_cases l <;> rfl
  exact h ⟨l, hl⟩

/-- A chunk's words, lane by lane, in the loaded words. -/
theorem chunkV_lane (v : IVec S16 32) (a : ℕ → BitVec 32) (ha : ∀ k (hk : k < 8), v (at1 k (by omega)) = a k) (l : ℕ) (hl : l < 16) :
    chunkV v (at1 l hl) = pick4 (clipW (a (2 * (l / 4)))) (clipW (a (2 * (l / 4) + 1))) (l % 4) := by
  have hwd : ∀ k (hk : k < 8) (h : S16.Slices ![k] S1), wordV v k h = a k := fun k hk h =>
    (lane_extract v k h (by omega) shapeCasts_S16_S16 inpos_S1_p0).trans (ha k hk)
  unfold chunkV
  rw [shapeCast_self, fourV_lane, hwd 0 (by decide), hwd 1 (by decide), hwd 2 (by decide), hwd 3 (by decide), hwd 4 (by decide), hwd 5 (by decide),
    hwd 6 (by decide), hwd 7 (by decide)]
  have hq : l / 4 = 0 ∨ l / 4 = 1 ∨ l / 4 = 2 ∨ l / 4 = 3 := by omega
  rcases hq with h | h | h | h <;> rw [h] <;> rfl

/-! ## Sixteen words stored -/

/-- The first `16 * c` words of the row scratch hold their values. -/
def RowsDone (bb : S2048.Idx → BitVec 32) (w c : ℕ) (f : S128.Idx → BitVec 32) : Prop :=
  ∀ j (h : j < 128), j < 16 * c → f (at1 j h) = trackN bb (128 * w + j)

/-- Storing a chunk's words makes sixteen words more hold their values. -/
theorem rows_next (bb : S2048.Idx → BitVec 32) (w c : ℕ) (hc : c < 8) (f : S128.Idx → BitVec 32) (hf : RowsDone bb w c f)
    (o : Fin 1 → ℕ) (h : ∀ a, o a + S16.size a ≤ S128.size a) (e : o = ![16 * c])
    (v : IVec S16 32) (hv : ∀ k (hk : k < 8), v (at1 k (by omega)) = boxAt bb (64 * w + 8 * c + k)) :
    RowsDone bb w (c + 1) ((rowM.access (Rect.unit (s := S128) o S16.size h)).write (Elt F) f (chunkV v) Finset.univ) := by
  intro j hj hj'
  by_cases hlt : 16 * c ≤ j
  · have e1 : (rowM.access (Rect.unit (s := S128) o S16.size h)).emb (at1 (j - 16 * c) (by omega)) = at1 j hj :=
      (band_emb (n := 128) (m := 16) o h (16 * c) e (j - 16 * c) (by omega) (by omega)).trans (by congr 1; omega)
    refine (congrArg ((rowM.access (Rect.unit (s := S128) o S16.size h)).write (Elt F) f (chunkV v) Finset.univ) e1).symm.trans ?_
    refine (View.write_emb_of_mem (Val := Elt F) (v := rowM.access (Rect.unit (s := S128) o S16.size h)) f _ (Finset.mem_univ (at1 (j - 16 * c) (by omega)))).trans ?_
    refine (chunkV_lane v (fun k => boxAt bb (64 * w + 8 * c + k)) hv _ _).trans ?_
    unfold trackN
    have q1 : 64 * w + 8 * c + 2 * ((j - 16 * c) / 4) = 2 * ((128 * w + j) / 4) := by omega
    have q2 : (j - 16 * c) % 4 = (128 * w + j) % 4 := by omega
    rw [← q1, q2]
    rfl
  · refine (View.write_of_not_mem (Val := Elt F) (v := rowM.access (Rect.unit (s := S128) o S16.size h)) f (chunkV v) Finset.univ fun hm => ?_).trans (hf j hj (by omega))
    obtain ⟨i, -, hi⟩ := Finset.mem_map.mp hm
    have h0 := congrArg (fun y : S128.Idx => (y 0).val) hi
    subst e
    have h1 : 16 * c + 1 * (i 0).val = j := h0
    omega

/-- A chunk's load and store. -/
theorem row_store [FloatOps F] (d : Dev nD) (L : grid0.Coords) (bb : S2048.Idx → BitVec 32) (c : ℕ) (hc : c < 8) (f : S128.Idx → BitVec 32) (hf : RowsDone bb (wid L) c f)
    (o : Fin 1 → ℕ) (h : ∀ a, o a + S16.size a ≤ S128.size a) (e : o = ![16 * c])
    (v : IVec S16 32) (hv : ∀ k (hk : k < 8), v (at1 k (by omega)) = boxAt bb (64 * wid L + 8 * c + k)) (pay : IVec S16 32) (hp : pay = chunkV v)
    {α : Type} (kk : Prog (TpuEff nD τ sig (Elt F) Λ₀ (vT d L).2) α) (Q : α → sProp 𝕄) :
    (rowM.view.loc (vT d L) ↦{fullShare} f)
      ⊢ iprop((∀ f' : S128.Idx → BitVec 32, ⌜RowsDone bb (wid L) (c + 1) f'⌝ -∗ (rowM.view.loc (vT d L) ↦{fullShare} f')
            -∗ wp frame (wpE (defs₀ (F := F)) 𝒱₀ (vT d L) none) Set.univ kk Q)
        -∗ wp frame (wpE (defs₀ (F := F)) 𝒱₀ (vT d L) none) Set.univ
          (.op (.load rowM (Rect.unit (s := S128) o S16.size h).toLoadRect (View.loadsAt_vmem h_S16)) fun _ =>
            .op (.store rowM (Rect.unit (s := S128) o S16.size h) pay Finset.univ (View.stores_vmem_bits_univ h_S16 rfl) (.inl rfl)) fun _ => kk) Q) := by
  subst hp
  iintro H Hk
  sl_step
  sl_step
  iapply Hk $$ %_ [] H
  ipureintro
  exact rows_next bb (wid L) c hc f hf o h e v hv

/-- A chunk's loaded words. -/
theorem chunk_words (bb : S2048.Idx → BitVec 32) (ss : S1024.Idx → BitVec 32) (w : ℕ) (f8 : S80.Idx → BitVec 32) (f9 : S1040.Idx → BitVec 32)
    (ht : Tables bb ss w f8 f9) (c : ℕ) (hc : c < 8) (o : Fin 1 → ℕ) (h : ∀ a, o a + S16.size a ≤ S80.size a) (e : o = ![8 * c]) (k : ℕ) (hk : k < 8) :
    boxM.view.readAt (Elt F) (Rect.unit (s := S80) o S16.size h).toLoadRect f8 (at1 k (by omega)) = boxAt bb (64 * w + 8 * c + k) :=
  (box_lane f8 o h (8 * c) e k (by omega) (by omega)).trans ((ht.box (8 * c + k) (by omega)).trans (congrArg (boxAt bb) (by omega)))

/-! ## The tile's words copied out -/

/-- The elements of the second result that are a tile's: 128 words. -/
def trackSet (w : ℕ) : Finset S4096.Idx := Finset.univ.filter fun y => 128 * w ≤ (y 0).val ∧ (y 0).val < 128 * w + 128

/-- A tile's corner words are 128 in a row. -/
theorem mem_trackSet (w : ℕ) (y : S4096.Idx) : y ∈ trackSet w ↔ 128 * w ≤ (y 0).val ∧ (y 0).val < 128 * w + 128 := by
  simp [trackSet]

/-- The part of the second result a tile's words are copied to. -/
abbrev trackM (o : Fin 1 → ℕ) (h : ∀ a, o a + S128.size a ≤ S4096.size a) : Memref sig .scVector .hbm S128 .i32 :=
  btM.slice (Rect.unit (s := S4096) o S128.size h) (fun _ => rfl)

/-- The words copied out are the second result's. -/
theorem track_write (bb : S2048.Idx → BitVec 32) (w : ℕ) (f : S128.Idx → BitVec 32) (hf : RowsDone bb w 8 f) (g : S4096.Idx → BitVec 32)
    (o : Fin 1 → ℕ) (h : ∀ a, o a + S128.size a ≤ S4096.size a) (e : o = ![128 * w]) (y : S4096.Idx) (hy : y ∈ trackSet w) :
    (trackM o h).view.write (Elt F) g (rowM.view.read (Elt F) f) Finset.univ y = trackV bb y := by
  have hy' := (mem_trackSet w y).mp hy
  have hb : (y 0).val < 4096 := (y 0).isLt
  have e1 : (trackM o h).view.emb (at1 ((y 0).val - 128 * w) (by omega)) = y :=
    (band_emb (n := 4096) (m := 128) o h (128 * w) e ((y 0).val - 128 * w) (by omega) (by omega)).trans
      ((by congr 1; omega : at1 (128 * w + ((y 0).val - 128 * w)) _ = at1 (y 0).val hb).trans (at1_eta y hb))
  refine (congrArg ((trackM o h).view.write (Elt F) g (rowM.view.read (Elt F) f) Finset.univ) e1).symm.trans ?_
  refine (View.write_emb_of_mem (Val := Elt F) (v := (trackM o h).view) g _ (Finset.mem_univ (at1 ((y 0).val - 128 * w) (by omega)))).trans ?_
  refine (show _ = f (at1 ((y 0).val - 128 * w) (by omega)) from rfl).trans ?_
  refine (hf _ _ (by omega)).trans ?_
  unfold trackV
  congr 1
  omega

/-- The words that a tile copies out are its own. -/
theorem track_sub (w : ℕ) (o : Fin 1 → ℕ) (h : ∀ a, o a + S128.size a ≤ S4096.size a) (e : o = ![128 * w]) : (trackM o h).view.set ⊆ trackSet w := by
  intro y hy
  obtain ⟨i, -, hi⟩ := Finset.mem_map.mp hy
  have h0 := congrArg (fun y : S4096.Idx => (y 0).val) hi
  subst e
  have h1 : 128 * w + 1 * (i 0).val = (y 0).val := h0
  have i0 : (i 0).val < 128 := (i 0).isLt
  exact (mem_trackSet w y).mpr (by omega)

end Cert.Proof.RoiIdeal

end
-- ==== Proof.CornersIdeal.lean ====
/-
  A tile up to its regions and its boxes' words written.
-/
module

public import proofs.«01_k».proof.Proof.TrackIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- A tile up to its regions and its boxes' words written. -/
theorem part32_step [FloatOps F] (d : Dev nD) (L : grid0.Coords) (fm : S8x256x128x128.Idx → Elt F .f32) (bb : S2048.Idx → BitVec 32) (ss : S1024.Idx → BitVec 32)
    (hr : InRange bb ss) (q : PosShare TreeShare) (g : S1024x256x16x16.Idx → Elt F .f32) (t : S4096.Idx → BitVec 32) (f10 : S128.Idx → BitVec 32)
    (O : CellTallies nD τ sig (HIx 1)) (W : Waits sig (HIx 1))
    {α : Type} (kk : _ → Prog (TpuEff nD τ sig (Elt F) Λ₀ (vT d L).2) α) (Q : α → sProp 𝕄) :
    iprop(Transfers.MayWaits (vT d L) none O ∗ tilePre d L fm bb ss q g O W ∗ (btM.view.loc (vT d L) ↦[trackSet (wid L)]{fullShare} t) ∗ (rowM.view.loc (vT d L) ↦{fullShare} f10)
        ∗ semVal (vT d L, .dma cc0_scoped4.sem) 0)
      ⊢ iprop((∀ (f8 : S80.Idx → BitVec 32) (f9 : S1040.Idx → BitVec 32) (f10' : S128.Idx → BitVec 32) (u : BitVec 32), ⌜Tables bb ss (wid L) f8 f9⌝ -∗ tileMid d L fm bb ss q f8 f9 O W
            -∗ (btM.view.loc (vT d L) ↦[trackSet (wid L)]{fullShare} trackV bb) -∗ (rowM.view.loc (vT d L) ↦{fullShare} f10') -∗ semVal (vT d L, .dma cc0_scoped4.sem) 0
            -∗ wp frame (wpE (defs₀ (F := F)) 𝒱₀ (vT d L) none) Set.univ (kk ⟨iota .scVector S16 32 [0] iota_S16_d0_w32_scVector, u, 0#32⟩) Q)
        -∗ wp frame (wpE (defs₀ (F := F)) 𝒱₀ (vT d L) none) Set.univ (k0_part32 (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5 >>= kk) Q) := by
  have e70 : k0_off70 L = ![128 * wid L] := (k0_off70_eq L).trans (by congr 1; unfold wid; omega)
  rw [k0_part32_eq_skeleton]
  unfold k0_part32_skel
  simp only [bind_assoc]
  iintro ⟨#Hmw, Hpre, Hbt, H10, Hs4⟩ Hk
  iapply (part11_step d L fm bb ss hr q g O W) $$ Hpre
  iintro %f8 %f9 %v1 %v2 %ht Hmid
  simp only [k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, Prog.lift, Prog.bind_op, Prog.bind_ret, Prog.pure_eq_ret, bind_assoc]
  unfold tileMid boxInv
  icases Hmid with ⟨Hbb, Has, Hs0, Hs1, -, Hfm, H8, H9, Hst, Hout, Hs2, Hs3, HO⟩
  iapply (row_store d L bb 0 (by decide) _ (fun j h h0 => absurd h0 (by omega)) ![0] inb_S128_S16_0 rfl _ (chunk_words bb ss (wid L) f8 f9 ht 0 (by decide) ![0] inb_S80_S16_0 rfl) _ rfl) $$ H10
  iintro %f10 %hf H10
  sl_step
  iapply (row_store d L bb 1 (by decide) _ hf ![16] inb_S128_S16_16 rfl _ (chunk_words bb ss (wid L) f8 f9 ht 1 (by decide) ![8] inb_S80_S16_8 rfl) _ rfl) $$ H10
  iintro %f10 %hf H10
  sl_step
  iapply (row_store d L bb 2 (by decide) _ hf ![32] inb_S128_S16_32 rfl _ (chunk_words bb ss (wid L) f8 f9 ht 2 (by decide) ![16] inb_S80_S16_16 rfl) _ rfl) $$ H10
  iintro %f10 %hf H10
  sl_step
  iapply (row_store d L bb 3 (by decide) _ hf ![48] inb_S128_S16_48 rfl _ (chunk_words bb ss (wid L) f8 f9 ht 3 (by decide) ![24] inb_S80_S16_24 rfl) _ rfl) $$ H10
  iintro %f10 %hf H10
  sl_step
  iapply (row_store d L bb 4 (by decide) _ hf ![64] inb_S128_S16_64 rfl _ (chunk_words bb ss (wid L) f8 f9 ht 4 (by decide) ![32] inb_S80_S16_32 rfl) _ rfl) $$ H10
  iintro %f10 %hf H10
  sl_step
  iapply (row_store d L bb 5 (by decide) _ hf ![80] inb_S128_S16_80 rfl _ (chunk_words bb ss (wid L) f8 f9 ht 5 (by decide) ![40] inb_S80_S16_40 rfl) _ rfl) $$ H10
  iintro %f10 %hf H10
  sl_step
  iapply (row_store d L bb 6 (by decide) _ hf ![96] inb_S128_S16_96 rfl _ (chunk_words bb ss (wid L) f8 f9 ht 6 (by decide) ![48] inb_S80_S16_48 rfl) _ rfl) $$ H10
  iintro %f10 %hf H10
  sl_step
  iapply (row_store d L bb 7 (by decide) _ hf ![112] inb_S128_S16_112 rfl _ (chunk_words bb ss (wid L) f8 f9 ht 7 (by decide) ![56] inb_S80_S16_56 rfl) _ rfl) $$ H10
  iintro %f10 %hf H10

  iapply (wp_copy (F := F) (d := d) (L := L) (src := rowM) (dst := trackM (k0_off70 L) (k0_off70_inb L)) (sem := cc0_scoped4.sem) (q := fullShare)
    (Ss := Finset.univ) (fs := f10) (Sd := trackSet (wid L)) (fd := t) _ _ (by decide) rfl (Finset.subset_univ _) (track_sub (wid L) _ _ e70)) $$ [H10 Hbt Hs4 HO]
  · isplitr; · iexact Hmw
    isplitl [H10]; · iexact H10
    isplitl [Hbt]; · iexact Hbt
    isplitl [Hs4] <;> iassumption
  iintro H10 Hbt Hs4 HO
  iapply Hk $$ %_ %_ %_ %_ [] [Hfm Hbb Has H8 H9 Hst Hout Hs0 Hs1 Hs2 Hs3 HO] [Hbt] H10 Hs4
  · ipureintro; exact ht
  · isplitl [Hbb]; · iexact Hbb
    isplitl [Has]; · iexact Has
    isplitl [Hs0]; · iexact Hs0
    isplitl [Hs1]; · iexact Hs1
    isplitr; · iexact Hmw
    isplitl [Hfm]; · iexact Hfm
    isplitl [H8]; · iexact H8
    isplitl [H9]; · iexact H9
    isplitl [Hst]; · iexact Hst
    isplitl [Hout]; · iexact Hout
    isplitl [Hs2]; · iexact Hs2
    isplitl [Hs3] <;> iassumption
  · iapply (show ((trackM (k0_off70 L) (k0_off70_inb L)).view.loc (vT d L) ↦[trackSet (wid L)]{fullShare}
        (trackM (k0_off70 L) (k0_off70_inb L)).view.write (Elt F) t (rowM.view.read (Elt F) f10) Finset.univ)
      ⊢ ((btM.view.loc (vT d L) ↦[trackSet (wid L)]{fullShare} trackV bb) : sProp 𝕄) from
        Entails.of_eq (pointsTo_congr (fun y hy => track_write bb (wid L) f10 hf t _ _ e70 y hy))) $$ Hbt

end Cert.Proof.RoiIdeal

end
-- ==== Proof.TileIdeal.lean ====
/-
  The counts, and a whole tile: its regions, its boxes' words, and for tile 0 the eight counts.
-/
module

public import proofs.«01_k».proof.Proof.CornersIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The counts -/

/-- The third result: how far the search for each sample goes beyond the search before it. -/
def cntV (ss : S1024.Idx → BitVec 32) : S8.Idx → BitVec 32 := fun y =>
  Scalar.subi (boundOf ss (BitVec.ofNat 32 (y 0).val)) (if (y 0).val = 0 then 0#32 else boundOf ss (BitVec.ofNat 32 ((y 0).val - 1)))

/-- The counts' lanes, from the eight searches' ends. -/
theorem counts_lane (u : ℕ → BitVec 32) : ∀ j : Fin 8,
    k0_pay50 (iota .scVector S16 32 [0] iota_S16_d0_w32_scVector) (u 3)
        (k0_pay45 (iota .scVector S16 32 [0] iota_S16_d0_w32_scVector) (u 0) (u 1) (u 2) (u 3)) (u 4) (u 5) (u 6) (u 7) (at1 j.val (Nat.lt_trans j.isLt (by decide)))
      = Scalar.subi (u j.val) (if j.val = 0 then 0#32 else u (j.val - 1)) := by
  intro j
  unfold k0_pay50 k0_pay45
  rw [shapeCast_self]
  fin_cases j <;> rfl

/-- The part of the counts' scratch that is copied out. -/
abbrev numFrontM : Memref sig .scVector .vmem S8 .i32 :=
  numM.slice (Rect.unit (s := S16) ![0] S8.size inb_S16_S8_0) (fun _ => rfl)

/-- The counts stored and copied out are the third result. -/
theorem counts_write (ss : S1024.Idx → BitVec 32) (f : S16.Idx → BitVec 32) (g : S8.Idx → BitVec 32) :
    cntM.view.write (Elt F) g (numFrontM.view.read (Elt F) ((numM.access (Rect.unit (s := S16) ![0] S16.size inb_S16_S16_0)).write (Elt F) f
      (k0_pay50 (iota .scVector S16 32 [0] iota_S16_d0_w32_scVector) (boundOf ss 3#32)
        (k0_pay45 (iota .scVector S16 32 [0] iota_S16_d0_w32_scVector) (boundOf ss 0#32) (boundOf ss 1#32) (boundOf ss 2#32) (boundOf ss 3#32))
        (boundOf ss 4#32) (boundOf ss 5#32) (boundOf ss 6#32) (boundOf ss 7#32)) Finset.univ)) Finset.univ = cntV ss := by
  refine (View.write_whole_univ _ _ _).trans ?_
  funext y
  have hy : (y 0).val < 8 := (y 0).isLt
  have e0 : numFrontM.view.emb y = at1 (y 0).val (by omega) := by
    refine (congrArg numFrontM.view.emb (at1_eta y hy)).symm.trans ?_
    exact (band_emb (n := 16) (m := 8) ![0] inb_S16_S8_0 0 rfl (y 0).val hy (by omega)).trans (by congr 1; omega)
  have e1 : (numM.access (Rect.unit (s := S16) ![0] S16.size inb_S16_S16_0)).emb (at1 (y 0).val (by omega)) = at1 (y 0).val (by omega) :=
    (band_emb (n := 16) (m := 16) ![0] inb_S16_S16_0 0 rfl (y 0).val (by omega) (by omega)).trans (by congr 1; omega)
  refine (show _ = (numM.access (Rect.unit (s := S16) ![0] S16.size inb_S16_S16_0)).write (Elt F) f _ Finset.univ (numFrontM.view.emb y) from rfl).trans ?_
  rw [e0]
  refine (congrArg ((numM.access (Rect.unit (s := S16) ![0] S16.size inb_S16_S16_0)).write (Elt F) f _ Finset.univ) e1).symm.trans ?_
  refine (View.write_emb_of_mem (Val := Elt F) (v := numM.access (Rect.unit (s := S16) ![0] S16.size inb_S16_S16_0)) f _ (Finset.mem_univ (at1 (y 0).val (by omega)))).trans ?_
  exact counts_lane (fun n => boundOf ss (BitVec.ofNat 32 n)) ⟨(y 0).val, hy⟩

/-! ## A whole tile -/

/-- The tile that writes the counts is tile 0. -/
theorem cond1_iff : ∀ L : grid0.Coords, k0_cond1 L = 1#1 ↔ wid L = 0 := by decide +kernel

/-- The counts' array, held by tile 0 alone. -/
def cntPart (d : Dev nD) (L : grid0.Coords) (f : S8.Idx → BitVec 32) : sProp 𝕄 :=
  if wid L = 0 then (cntM.view.loc (vT d L) ↦{fullShare} f) else iprop(emp)

/-- Tile 0 holds the counts, -/
theorem cntPart_zero (d : Dev nD) (L : grid0.Coords) (f : S8.Idx → BitVec 32) (h : wid L = 0) :
    (cntPart d L f : sProp 𝕄) = (cntM.view.loc (vT d L) ↦{fullShare} f) := if_pos h

/-- and no other tile does. -/
theorem cntPart_other (d : Dev nD) (L : grid0.Coords) (f : S8.Idx → BitVec 32) (h : wid L ≠ 0) :
    (cntPart d L f : sProp 𝕄) = iprop(emp) := if_neg h

/-- What a tile is handed: read shares of the three inputs, its regions, its boxes' words, the counts for tile 0. -/
def goV (d : Dev nD) (L : grid0.Coords) (fm : S8x256x128x128.Idx → Elt F .f32) (bb : S2048.Idx → BitVec 32) (ss : S1024.Idx → BitVec 32) (q : PosShare TreeShare)
    (g : S1024x256x16x16.Idx → Elt F .f32) (t : S4096.Idx → BitVec 32) (c : S8.Idx → BitVec 32) : sProp 𝕄 :=
  iprop((fmM.view.loc (vT d L) ↦{q} fm) ∗ (bbM.view.loc (vT d L) ↦{q} bb) ∗ (asM.view.loc (vT d L) ↦{q} ss)
    ∗ (outM.view.loc (vT d L) ↦[outSet (wid L)]{fullShare} g) ∗ (btM.view.loc (vT d L) ↦[trackSet (wid L)]{fullShare} t) ∗ cntPart d L c)

/-- A tile's own scratch and semaphores. -/
def kitV (d : Dev nD) (L : grid0.Coords) : sProp 𝕄 :=
  iprop((∃ f, boxM.view.loc (vT d L) ↦{fullShare} f) ∗ (∃ f, smpM.view.loc (vT d L) ↦{fullShare} f) ∗ (∃ f, rowM.view.loc (vT d L) ↦{fullShare} f)
    ∗ (∃ f, numM.view.loc (vT d L) ↦{fullShare} f) ∗ (∃ f, stageM.view.loc (vT d L) ↦{fullShare} f)
    ∗ semVal (vT d L, .dma cc0_scoped0.sem) 0 ∗ semVal (vT d L, .dma cc0_scoped1.sem) 0 ∗ semVal (vT d L, .dma cc0_scoped2.sem) 0
    ∗ semVal (vT d L, .dma cc0_scoped3.sem) 0 ∗ semVal (vT d L, .dma cc0_scoped4.sem) 0 ∗ semVal (vT d L, .dma cc0_scoped5.sem) 0)

/-- The regions a finished loop leaves are the first result's. -/
theorem done_all (fm : S8x256x128x128.Idx → Elt F .f32) (bb : S2048.Idx → BitVec 32) (ss : S1024.Idx → BitVec 32) (w : ℕ)
    (g : S1024x256x16x16.Idx → Elt F .f32) (hg : Done fm bb ss w 32 g) (y : S1024x256x16x16.Idx) (hy : y ∈ outSet w) : g y = outV fm bb ss y := by
  have h := (mem_outSet w y).mp hy
  exact hg y h.1 (by omega)

set_option maxHeartbeats 4000000 in
/-- A tile's run: it reads its inputs, writes its parts of the results, and leaves its scratch and semaphores as they were. -/
theorem kern_step [FloatOps F] (d : Dev nD) (L : grid0.Coords) (fm : S8x256x128x128.Idx → Elt F .f32) (bb : S2048.Idx → BitVec 32) (ss : S1024.Idx → BitVec 32)
    (hr : InRange bb ss) (q : PosShare TreeShare) (g : S1024x256x16x16.Idx → Elt F .f32) (t : S4096.Idx → BitVec 32) (c : S8.Idx → BitVec 32)
    (O : CellTallies nD τ sig (HIx 1)) (W : Waits sig (HIx 1)) :
    iprop(Transfers.MayWaits (vT d L) none O ∗ goV d L fm bb ss q g t c ∗ kitV d L ∗ owed (vT d L) O W)
      ⊢ wp frame (wpE (defs₀ (F := F)) 𝒱₀ (vT d L) none) Set.univ (cc0_roi_cut (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5)
          fun _ => (iprop(goV d L fm bb ss q (outV fm bb ss) (trackV bb) (cntV ss) ∗ kitV d L ∗ owed (vT d L) O W) : sProp 𝕄) := by
  have hout : ∀ g' : S1024x256x16x16.Idx → Elt F .f32, Done fm bb ss (wid L) 32 g' → (outM.view.loc (vT d L) ↦[outSet (wid L)]{fullShare} g')
      ⊢ ((outM.view.loc (vT d L) ↦[outSet (wid L)]{fullShare} outV fm bb ss) : sProp 𝕄) :=
    fun g' hg' => Entails.of_eq (pointsTo_congr (fun y hy => done_all fm bb ss (wid L) g' hg' y hy))
  rw [cc0_roi_cut_eq_skeleton]
  unfold cc0_roi_cut_skel goV kitV
  by_cases h1 : k0_cond1 L = 1#1
  · have hw0 := (cond1_iff L).mp h1
    rw [cntPart_zero d L c hw0, cntPart_zero d L (cntV ss) hw0]
    simp only [h1, ↓reduceDIte, bind_assoc]
    iintro ⟨#Hmw, ⟨Hfm, Hbb, Has, Hout, Hbt, Hcnt⟩, ⟨Hb, Hs, ⟨%f10, H10⟩, ⟨%f11, H11⟩, Hst, Hs0, Hs1, Hs2, Hs3, Hs4, Hs5⟩, HO⟩
    iapply (part32_step d L fm bb ss hr q g t f10 O W) $$ [Hfm Hbb Has Hout Hbt Hb Hs H10 Hst Hs0 Hs1 Hs2 Hs3 Hs4 HO]
    · unfold tilePre
      isplitr; · iexact Hmw
      isplitl [Hfm Hbb Has Hout Hb Hs Hst Hs0 Hs1 Hs2 Hs3 HO]
      · isplitr; · iexact Hmw
        isplitl [Hfm]; · iexact Hfm
        isplitl [Hbb]; · iexact Hbb
        isplitl [Has]; · iexact Has
        isplitl [Hout]; · iexact Hout
        isplitl [Hb]; · iexact Hb
        isplitl [Hs]; · iexact Hs
        isplitl [Hst]; · iexact Hst
        isplitl [Hs0]; · iexact Hs0
        isplitl [Hs1]; · iexact Hs1
        isplitl [Hs2]; · iexact Hs2
        isplitl [Hs3] <;> iassumption
      isplitl [Hbt]; · iexact Hbt
      isplitl [H10] <;> iassumption
    iintro %f8 %f9 %f10' %u %ht Hmid Hbt H10 Hs4
    unfold tileMid boxInv
    icases Hmid with ⟨Hbb, Has, Hs0, Hs1, -, Hfm, H8, H9, Hst, ⟨%g', %hg', Hout⟩, Hs2, Hs3, HO⟩
    ihave Hout := (hout g' hg') $$ Hout
    iapply (part9_step d L ss f9 (fun j hj => ht.smp j hj) _ h1) $$ H9
    iintro H9
    iapply (part10_step d L ss f9 (fun j hj => ht.smp j hj) _ h1 _ _ f11) $$ [H9 H11]
    · isplitl [H9] <;> iassumption
    iintro H9 H11
    simp only [Prog.lift, Prog.bind_op, Prog.bind_ret, Prog.pure_eq_ret]
    sl_step
    iapply (wp_copy (F := F) (d := d) (L := L) (src := numFrontM) (dst := cntM) (sem := cc0_scoped5.sem) (q := fullShare)
      (Ss := Finset.univ) (Sd := Finset.univ) (fd := c) _ _ (by decide) rfl (Finset.subset_univ _) (Finset.subset_univ _)) $$ [H11 Hcnt Hs5 HO]
    · isplitr; · iexact Hmw
      isplitl [H11]; · iexact H11
      isplitl [Hcnt]; · iexact Hcnt
      isplitl [Hs5] <;> iassumption
    iintro H11 Hcnt Hs5 HO
    sl_step
    isplitl [Hfm Hbb Has Hout Hbt Hcnt]
    · isplitl [Hfm]; · iexact Hfm
      isplitl [Hbb]; · iexact Hbb
      isplitl [Has]; · iexact Has
      isplitl [Hout]; · iexact Hout
      isplitl [Hbt]; · iexact Hbt
      iapply (Entails.of_eq (congrArg (fun f => (cntM.view.loc (vT d L) ↦{fullShare} f : sProp 𝕄)) (counts_write ss f11 c))) $$ Hcnt
    isplitr [HO]
    · isplitl [H8]; · iexists _; iexact H8
      isplitl [H9]; · iexists _; iexact H9
      isplitl [H10]; · iexists _; iexact H10
      isplitl [H11]; · iexists _; iexact H11
      isplitl [Hst]; · iexact Hst
      isplitl [Hs0]; · iexact Hs0
      isplitl [Hs1]; · iexact Hs1
      isplitl [Hs2]; · iexact Hs2
      isplitl [Hs3]; · iexact Hs3
      isplitl [Hs4] <;> iassumption
    iexact HO
  · have hw0 : wid L ≠ 0 := fun h => h1 ((cond1_iff L).mpr h)
    rw [cntPart_other d L c hw0, cntPart_other d L (cntV ss) hw0]
    simp only [h1, ↓reduceDIte, Prog.bind_ret, Prog.pure_eq_ret]
    iintro ⟨#Hmw, ⟨Hfm, Hbb, Has, Hout, Hbt, Hcnt⟩, ⟨Hb, Hs, ⟨%f10, H10⟩, ⟨%f11, H11⟩, Hst, Hs0, Hs1, Hs2, Hs3, Hs4, Hs5⟩, HO⟩
    iapply (part32_step d L fm bb ss hr q g t f10 O W) $$ [Hfm Hbb Has Hout Hbt Hb Hs H10 Hst Hs0 Hs1 Hs2 Hs3 Hs4 HO]
    · unfold tilePre
      isplitr; · iexact Hmw
      isplitl [Hfm Hbb Has Hout Hb Hs Hst Hs0 Hs1 Hs2 Hs3 HO]
      · isplitr; · iexact Hmw
        isplitl [Hfm]; · iexact Hfm
        isplitl [Hbb]; · iexact Hbb
        isplitl [Has]; · iexact Has
        isplitl [Hout]; · iexact Hout
        isplitl [Hb]; · iexact Hb
        isplitl [Hs]; · iexact Hs
        isplitl [Hst]; · iexact Hst
        isplitl [Hs0]; · iexact Hs0
        isplitl [Hs1]; · iexact Hs1
        isplitl [Hs2]; · iexact Hs2
        isplitl [Hs3] <;> iassumption
      isplitl [Hbt]; · iexact Hbt
      isplitl [H10] <;> iassumption
    iintro %f8 %f9 %f10' %u %ht Hmid Hbt H10 Hs4
    unfold tileMid boxInv
    icases Hmid with ⟨Hbb, Has, Hs0, Hs1, -, Hfm, H8, H9, Hst, ⟨%g', %hg', Hout⟩, Hs2, Hs3, HO⟩
    ihave Hout := (hout g' hg') $$ Hout
    sl_step
    isplitl [Hfm Hbb Has Hout Hbt Hcnt]
    · isplitl [Hfm]; · iexact Hfm
      isplitl [Hbb]; · iexact Hbb
      isplitl [Has]; · iexact Has
      isplitl [Hout]; · iexact Hout
      isplitl [Hbt] <;> iassumption
    isplitr [HO]
    · isplitl [H8]; · iexists _; iexact H8
      isplitl [H9]; · iexists _; iexact H9
      isplitl [H10]; · iexists _; iexact H10
      isplitl [H11]; · iexists _; iexact H11
      isplitl [Hst]; · iexact Hst
      isplitl [Hs0]; · iexact Hs0
      isplitl [Hs1]; · iexact Hs1
      isplitl [Hs2]; · iexact Hs2
      isplitl [Hs3]; · iexact Hs3
      isplitl [Hs4] <;> iassumption
    iexact HO

end Cert.Proof.RoiIdeal

end
-- ==== Proof.LaunchIdeal.lean ====
/-
  The launch: what each tile is handed and hands back, a tile's scratch and semaphores among its processor's own, and
  the obligation the launch theorem has of every tile.
-/
module

public import proofs.«01_k».proof.Proof.TileIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as it is launched -/

/-- The program's labels. -/
abbrev ΛP : Labels := Pipeline.Sig Λ₀ (Fin 0) fun p => (pcfgs (F := F) p).Adm
/-- The SparseCore calls. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop of the program needs a variant. -/
abbrev 𝒱 : Variants := 𝒱₀.lift
/-- The empty variant. -/
abbrev v₀ : 𝒱.V := Sum.inl none

/-- The handshakes' semaphores and the scoped ones are apart, and no buffer of a SparseCore is shared among its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' part of the ghost state. -/
abbrev EH : Emb UH (MT nD τ sig (HIx 1) (Elt F) ℕ UU ℕ) := embL

/-! ## The arrays, and what a tile is handed -/

/-- The feature maps, -/
abbrev fmLoc (d : Dev nD) : Loc nD τ sig := (SparseCore.T d).loc main_arg0
/-- the boxes' words, -/
abbrev bbLoc (d : Dev nD) : Loc nD τ sig := (SparseCore.T d).loc main_v0
/-- the samples, -/
abbrev asLoc (d : Dev nD) : Loc nD τ sig := (SparseCore.T d).loc main_arg2
/-- the regions, -/
abbrev outLoc (d : Dev nD) : Loc nD τ sig := (SparseCore.T d).loc main_v1_0
/-- the corner words -/
abbrev btLoc (d : Dev nD) : Loc nD τ sig := (SparseCore.T d).loc main_v1_1
/-- and the counts, in the device's memory. -/
abbrev cntLoc (d : Dev nD) : Loc nD τ sig := (SparseCore.T d).loc main_v1_2

/-- The counts' array for tile `0`, nothing for another. -/
def cntW (d : Dev nD) (w : ℕ) (c : S8.Idx → BitVec 32) : sProp 𝕄 := if w = 0 then (cntLoc d ↦{fullShare} c) else iprop(emp)

/-- What tile `w` is handed of the arrays. -/
def goW (d : Dev nD) (w : ℕ) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) : sProp 𝕄 :=
  iprop((fmLoc d ↦{Transfers.shareTokN fullShare w} fm) ∗ (bbLoc d ↦{Transfers.shareTokN fullShare w} bb) ∗ (asLoc d ↦{Transfers.shareTokN fullShare w} ss)
    ∗ (outLoc d ↦[outSet w]{fullShare} g) ∗ (btLoc d ↦[trackSet w]{fullShare} t) ∗ cntW d w c)

/-- It is the tile's own spelling of it. -/
theorem goW_eq (d : Dev nD) (L : grid0.Coords) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) :
    (goW d (wid L) fm bb ss g t c : sProp 𝕄) = goV d L fm bb ss (Transfers.shareTokN fullShare (wid L)) g t c := rfl

/-- The counts' part can be kept in an invariant. -/
instance cntW_storable (d : Dev nD) (w : ℕ) (c : S8.Idx → BitVec 32) : BI.Storable (upEmb : UEmb _ 𝕄) (cntW (F := F) d w c) := by
  unfold cntW; split <;> infer_instance

/-- What a tile is handed can be kept in an invariant, -/
instance goW_storable (d : Dev nD) (w : ℕ) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) : BI.Storable (upEmb : UEmb _ 𝕄) (goW d w fm bb ss g t c) := by
  unfold goW; infer_instance

/-! ## The launch memory -/

variable (m : (ℓ : Loc nD τ sig) → Buf (Elt F) ℓ)

/-- The boxes as the call is handed them: the second argument, its rows one after another. -/
def bbOf (d : Dev nD) : S2048.Idx → BitVec 32 := shapeCast S2048 (m ((SparseCore.T d).loc main_arg1)) shapeCasts_S1024x2_S2048

/-- What tile `w` is handed at its start, -/
def goM (d : Dev nD) (w : ℕ) : sProp 𝕄 := goW d w (m (fmLoc d)) (bbOf m d) (m (asLoc d)) (m (outLoc d)) (m (btLoc d)) (m (cntLoc d))
/-- and what it hands back. -/
def tdM (d : Dev nD) (w : ℕ) : sProp 𝕄 :=
  goW d w (m (fmLoc d)) (bbOf m d) (m (asLoc d)) (outV (m (fmLoc d)) (bbOf m d) (m (asLoc d))) (trackV (bbOf m d)) (cntV (m (asLoc d)))

/-- at the launch's contents, -/
instance goM_storable (d : Dev nD) (w : ℕ) : BI.Storable (upEmb : UEmb _ 𝕄) (goM m d w) := by unfold goM; infer_instance
/-- and what it hands back, -/
instance tdM_storable (d : Dev nD) (w : ℕ) : BI.Storable (upEmb : UEmb _ 𝕄) (tdM m d w) := by unfold tdM; infer_instance

/-- The call's payloads: a SparseCore is handed what its sixteen tiles are, tile `i` of SparseCore `c` being tile `2 * i + c`. -/
def P : (K (F := F)).Pay (nD := nD) (Val := Elt F) (Name := ℕ) (U := UU) where
  st := fun q d c => bigSep Finset.univ fun i : Fin ((K (F := F)).nSub q) => goM m d (2 * i.val + c.val)
  dn := fun q d c => bigSep Finset.univ fun i : Fin ((K (F := F)).nSub q) => tdM m d (2 * i.val + c.val)
  go := fun _ d c i => goM m d (2 * i.val + c.val)
  td := fun _ d c i => tdM m d (2 * i.val + c.val)
  x := fun _ _ => iprop(emp)

/-- so the call's payloads can. -/
instance P_storable : (P (F := F) m).IsStorable where
  st _ d c := by unfold P; infer_instance
  dn _ d c := by unfold P; infer_instance
  go _ d c i := by unfold P; infer_instance
  td _ d c i := by unfold P; infer_instance

/-! ## A tile's scratch and semaphores -/

/-- The six semaphores of a tile's copies: the boxes', -/
abbrev cell0 (d : Dev nD) (L : grid0.Coords) : GSem nD τ sig := (vT d L, SemLoc.dma cc0_scoped0.sem)
/-- the samples', -/
abbrev cell1 (d : Dev nD) (L : grid0.Coords) : GSem nD τ sig := (vT d L, SemLoc.dma cc0_scoped1.sem)
/-- a fetch's, -/
abbrev cell2 (d : Dev nD) (L : grid0.Coords) : GSem nD τ sig := (vT d L, SemLoc.dma cc0_scoped2.sem)
/-- a region's, -/
abbrev cell3 (d : Dev nD) (L : grid0.Coords) : GSem nD τ sig := (vT d L, SemLoc.dma cc0_scoped3.sem)
/-- the corner words' -/
abbrev cell4 (d : Dev nD) (L : grid0.Coords) : GSem nD τ sig := (vT d L, SemLoc.dma cc0_scoped4.sem)
/-- and the counts'. -/
abbrev cell5 (d : Dev nD) (L : grid0.Coords) : GSem nD τ sig := (vT d L, SemLoc.dma cc0_scoped5.sem)

/-- Different semaphores of a tile are different cells. -/
theorem cell_ne (d : Dev nD) (L : grid0.Coords) {a b : SemLoc sig} (h : a ≠ b) : ((vT d L, a) : GSem nD τ sig) ≠ (vT d L, b) :=
  fun e => h (Prod.mk.inj e).2

/-- The six semaphores of the tile's copies are among its processor's own. -/
theorem ownSems0_V (d : Dev nD) (L : grid0.Coords) :
    (ownSems0 (vT d L) : sProp 𝕄) = iprop(semVal (cell0 d L) 0 ∗ semVal (cell1 d L) 0 ∗ semVal (cell2 d L) 0 ∗ semVal (cell3 d L) 0 ∗ semVal (cell4 d L) 0 ∗ semVal (cell5 d L) 0
      ∗ bigSep (((((((ownCells (vT d L)).erase (cell0 d L)).erase (cell1 d L)).erase (cell2 d L)).erase (cell3 d L)).erase (cell4 d L)).erase (cell5 d L)) fun g => semVal g 0) := by
  unfold SparseCore.Cfg.ownSems0
  rw [SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne d L (show (SemLoc.dma cc0_scoped1.sem : SemLoc sig) ≠ SemLoc.dma cc0_scoped0.sem by decide), (mem_ownCells (g := cell1 d L)).mpr ⟨rfl, by show (SemLoc.dma cc0_scoped1.sem : SemLoc sig).isScoped .scVector = true; decide⟩⟩),
    SparseCore.bigSep_erase' (Finset.mem_erase.mpr ⟨cell_ne d L (show (SemLoc.dma cc0_scoped2.sem : SemLoc sig) ≠ SemLoc.dma cc0_scoped1.sem by decide), Finset.mem_erase.mpr ⟨cell_ne d L (show (SemLoc.dma cc0_scoped2.sem : SemLoc sig) ≠ SemLoc.dma cc0_scoped0.sem by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne d L (show (SemLoc.dma cc0_scoped3.sem : SemLoc sig) ≠ SemLoc.dma cc0_scoped2.sem by decide), Finset.mem_erase.mpr ⟨cell_ne d L (show (SemLoc.dma cc0_scoped3.sem : SemLoc sig) ≠ SemLoc.dma cc0_scoped1.sem by decide), Finset.mem_erase.mpr ⟨cell_ne d L (show (SemLoc.dma cc0_scoped3.sem : SemLoc sig) ≠ SemLoc.dma cc0_scoped0.sem by decide), (mem_ownCells (g := cell3 d L)).mpr ⟨rfl, by show (SemLoc.dma cc0_scoped3.sem : SemLoc sig).isScoped .scVector = true; decide⟩⟩⟩⟩),
    SparseCore.bigSep_erase' (Finset.mem_erase.mpr ⟨cell_ne d L (show (SemLoc.dma cc0_scoped4.sem : SemLoc sig) ≠ SemLoc.dma cc0_scoped3.sem by decide), Finset.mem_erase.mpr ⟨cell_ne d L (show (SemLoc.dma cc0_scoped4.sem : SemLoc sig) ≠ SemLoc.dma cc0_scoped2.sem by decide), Finset.mem_erase.mpr ⟨cell_ne d L (show (SemLoc.dma cc0_scoped4.sem : SemLoc sig) ≠ SemLoc.dma cc0_scoped1.sem by decide), Finset.mem_erase.mpr ⟨cell_ne d L (show (SemLoc.dma cc0_scoped4.sem : SemLoc sig) ≠ SemLoc.dma cc0_scoped0.sem by decide), (mem_ownCells (g := cell4 d L)).mpr ⟨rfl, by show (SemLoc.dma cc0_scoped4.sem : SemLoc sig).isScoped .scVector = true; decide⟩⟩⟩⟩⟩),
    SparseCore.bigSep_erase' (Finset.mem_erase.mpr ⟨cell_ne d L (show (SemLoc.dma cc0_scoped5.sem : SemLoc sig) ≠ SemLoc.dma cc0_scoped4.sem by decide), Finset.mem_erase.mpr ⟨cell_ne d L (show (SemLoc.dma cc0_scoped5.sem : SemLoc sig) ≠ SemLoc.dma cc0_scoped3.sem by decide), Finset.mem_erase.mpr ⟨cell_ne d L (show (SemLoc.dma cc0_scoped5.sem : SemLoc sig) ≠ SemLoc.dma cc0_scoped2.sem by decide), Finset.mem_erase.mpr ⟨cell_ne d L (show (SemLoc.dma cc0_scoped5.sem : SemLoc sig) ≠ SemLoc.dma cc0_scoped1.sem by decide), Finset.mem_erase.mpr ⟨cell_ne d L (show (SemLoc.dma cc0_scoped5.sem : SemLoc sig) ≠ SemLoc.dma cc0_scoped0.sem by decide), (mem_ownCells (g := cell5 d L)).mpr ⟨rfl, by show (SemLoc.dma cc0_scoped5.sem : SemLoc sig).isScoped .scVector = true; decide⟩⟩⟩⟩⟩⟩)]

/-- The five scratch buffers are among its processor's own. -/
theorem ownBufs_V (d : Dev nD) (L : grid0.Coords) :
    (ownBufs (vT d L) : sProp 𝕄) = iprop((∃ f, (vT d L).loc cc0_scratch0 ↦{fullShare} f) ∗ (∃ f, (vT d L).loc cc0_scratch1 ↦{fullShare} f) ∗ (∃ f, (vT d L).loc cc0_scratch2 ↦{fullShare} f) ∗ (∃ f, (vT d L).loc cc0_scratch3 ↦{fullShare} f) ∗ (∃ f, (vT d L).loc cc0_scratch4 ↦{fullShare} f)
      ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

/-- A tile's scratch and semaphores, with the rest of what its processor owns. -/
theorem kit_split (d : Dev nD) (L : grid0.Coords) : ∃ R : sProp 𝕄,
    (iprop(scopedBufs (vT d L) ∗ scopedSems0 (vT d L)) ⊢ iprop(kitV d L ∗ R)) ∧ (iprop(kitV d L ∗ R) ⊢ iprop(scopedBufs (vT d L) ∗ scopedSems0 (vT d L))) := by
  refine ⟨iprop((bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f))
    ∗ bigSep (((((((ownCells (vT d L)).erase (cell0 d L)).erase (cell1 d L)).erase (cell2 d L)).erase (cell3 d L)).erase (cell4 d L)).erase (cell5 d L)) fun g => semVal g 0), ?_⟩
  rw [(K (F := F)).scopedBufs_V facts d (cV L) (jV L), SparseCore.Cfg.scopedSems0_V (Val := Elt F) d (cV L) (jV L), ownSems0_V, ownBufs_V]
  unfold kitV
  constructor
  · iintro ⟨⟨H0, H1, H2, H3, H4, HR⟩, S0, S1, S2, S3, S4, S5, HS⟩
    isplitr [HR HS]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      isplitl [S4] <;> iassumption
    isplitl [HR] <;> iassumption
  · iintro ⟨⟨H0, H1, H2, H3, H4, S0, S1, S2, S3, S4, S5⟩, HR, HS⟩
    isplitr [S0 S1 S2 S3 S4 S5 HS]
    · isplitl [H0]; · iexact H0
      isplitl [H1]; · iexact H1
      isplitl [H2]; · iexact H2
      isplitl [H3]; · iexact H3
      isplitl [H4] <;> iassumption
    isplitl [S0]; · iexact S0
    isplitl [S1]; · iexact S1
    isplitl [S2]; · iexact S2
    isplitl [S3]; · iexact S3
    isplitl [S4]; · iexact S4
    isplitl [S5] <;> iassumption

/-! ## The obligations of the launch -/

variable [FloatOps F]

/-- A run's end, taken further under what was set aside. -/
theorem wp_frame_post (d : Dev nD) (L : grid0.Coords) {α : Type} {prog : Prog (TpuEff nD τ sig (Elt F) Λ₀ (vT d L).2) α} {A : sProp 𝕄} {Q Q' : α → sProp 𝕄}
    (h : A ⊢ wp frame (wpE (defs₀ (F := F)) 𝒱₀ (vT d L) none) Set.univ prog Q) :
    A ⊢ iprop((∀ a, Q a -∗ Q' a) -∗ wp frame (wpE (defs₀ (F := F)) 𝒱₀ (vT d L) none) Set.univ prog Q') := by
  iintro HA HQ
  iapply (wp_wand frame) $$ [HA]
  · iapply h $$ HA
  iexact HQ

/-- A tile's task, from what it is handed to what it hands back. -/
theorem tile_body (hr : ∀ d, InRange (bbOf m d) (m (asLoc d))) (d : Dev nD) (L : grid0.Coords)
    (O : CellTallies nD τ sig (HIx 1)) (W : Waits sig (HIx 1)) (hO : ∀ g, O g none = 0) (q : Fin 1) :
    iprop(levAts (K (F := F)).L (K (F := F)).lev ∗ iprop(emp) ∗ goM m d (wid L) ∗ scopedBufs (vT d L) ∗ scopedSems0 (vT d L) ∗ owes (vT d L) O W)
      ⊢ wp frame (wpE (defs₀ (F := F)) 𝒱₀ (vT d L) none) Set.univ (cc0_roi_cut (F := F) L (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5)
          fun _ => (iprop(tdM m d (wid L) ∗ scopedBufs (vT d L) ∗ scopedSems0 (vT d L)
            ∗ ∃ W', ⌜∀ p ∈ W', p ∈ W ∨ p.2 = none ∨ p.2 = some q⌝ ∗ owes (vT d L) O W') : sProp 𝕄) := by
  obtain ⟨R, hR⟩ := kit_split (F := F) d L
  unfold goM tdM
  rw [goW_eq, goW_eq]
  iintro ⟨#Hlv, -, Hgo, Hb, Hs, HO⟩
  ihave #Hmw := ((K (F := F)).mayWaits_none (thr := vT d L) hO) $$ Hlv
  ihave HO := (owed_intro (F := F) (vT d L) O W) $$ HO
  icases (show iprop(scopedBufs (vT d L) ∗ scopedSems0 (vT d L)) ⊢ (iprop(kitV d L ∗ R) : sProp 𝕄) from hR.1) $$ [Hb Hs] with ⟨Hkit, HR⟩
  · isplitl [Hb] <;> iassumption
  iapply (wp_frame_post (F := F) d L ((kern_step (F := F) d L (m (fmLoc d)) (bbOf m d) (m (asLoc d)) (hr d) (Transfers.shareTokN fullShare (wid L))
    (m (outLoc d)) (m (btLoc d)) (m (cntLoc d)) O W))) $$ [Hgo Hkit HO] [HR]
  · isplitr; · iexact Hmw
    isplitl [Hgo]; · iexact Hgo
    isplitl [Hkit] <;> iassumption
  iintro %_ ⟨Hgo, Hkit, HO⟩
  icases (show (iprop(kitV d L ∗ R) : sProp 𝕄) ⊢ iprop(scopedBufs (vT d L) ∗ scopedSems0 (vT d L)) from hR.2) $$ [Hkit HR] with ⟨Hb, Hs⟩
  · isplitl [Hkit] <;> iassumption
  isplitl [Hgo]; · iexact Hgo
  isplitl [Hb]; · iexact Hb
  isplitl [Hs]; · iexact Hs
  unfold owed
  icases HO with ⟨%W', %hW', HO⟩
  iexists W'
  isplitr
  · ipureintro; exact fun p hp => (hW' p hp).imp_right Or.inl
  iexact HO

/-- The grid's point of SparseCore `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's body on a tile. -/
theorem defs₀_vector (c : Fin τ.nSC) (s : Fin τ.nSub) :
    defs₀ (F := F) (.scVector c s) 0 () = SparseCore.onTile hcore0 hsub0 (fun c s => cc0_roi_cut (F := F) (coordsV c s) (Memref.whole main_arg0_scv) (Memref.isWhole_whole _) (Memref.whole main_v0_scv) (Memref.isWhole_whole _) (Memref.whole main_arg2_scv) (Memref.isWhole_whole _) (Memref.whole main_v1_0_scv) (Memref.isWhole_whole _) (Memref.whole main_v1_1_scv) (Memref.isWhole_whole _) (Memref.whole main_v1_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scoped0 cc0_scoped1 cc0_scoped2 cc0_scoped3 cc0_scoped4 cc0_scoped5) ⟨⟩ c s := rfl

/-- Every tile's obligation. -/
theorem tileObl (hr : ∀ d, InRange (bbOf m d) (m (asLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m hr d (coordsV ⟨_, hc.1⟩ ⟨_, hc.2⟩) O W hO 0

/-- A SparseCore's hand-over is its tiles' hand-overs, both ways. -/
theorem vecSplit : (K (F := F)).VecSplit' (P m) 0 := by
  intro d c
  show (bigSep Finset.univ fun i : Fin ((K (F := F)).nSub 0) => goM m d (2 * i.val + c.val)) ⊢ |={Set.univ}=> iprop(
      (bigSep Finset.univ fun i : Fin ((K (F := F)).nSub 0) => goM m d (2 * i.val + c.val))
      ∗ ((bigSep Finset.univ fun i : Fin ((K (F := F)).nSub 0) => tdM m d (2 * i.val + c.val))
        -∗ bigSep Finset.univ fun i : Fin ((K (F := F)).nSub 0) => tdM m d (2 * i.val + c.val)))
  iintro H
  imodintro
  isplitl [H]; · iexact H
  iintro H
  iexact H

/-! ## The launch element -/

/-- The launch's ghost element: the handshakes' rounds. -/
def u₀ : UU := (initOf (K (F := F)).hsCells (K (F := F)).hsToks, 1)

omit [FloatOps F] in
/-- Nothing, held many times, is nothing. -/
theorem bigSep_emp' {I : Type} (s : Finset I) : (bigSep s fun _ => iprop(emp)) = (iprop(emp) : sProp 𝕄) := bigSep_emp_const s

/-- The handshakes' rounds; the kernel needs nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.RoiIdeal

end
-- ==== Proof.MainIdeal.lean ====
/-
  @main: the boxes' reshape, the call over the thirty-two tiles, the corners' reshape and the two constants; and the
  program's run with its five results.
-/
module

public import proofs.«01_k».proof.Proof.LaunchIdeal

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-! ## The arrays dealt to the tiles -/

/-- Sixteen tiles of each of two SparseCores are thirty-two tiles. -/
theorem tiles_eq (Φ : ℕ → sProp 𝕄) :
    (bigSep (Finset.univ : Finset (Fin 2)) fun c => bigSep (Finset.univ : Finset (Fin 16)) fun i => Φ (2 * i.val + c.val))
      = bigSep (Finset.univ : Finset (Fin 32)) fun w => Φ w.val := by
  refine ((bigSep_univ_equiv ((Equiv.prodComm (Fin 2) (Fin 16)).trans (finProdFinEquiv (m := 16) (n := 2))) (fun w : Fin 32 => Φ w.val)).trans ?_).symm
  refine (bigSep_univ_prod _).trans ?_
  refine bigSep_congr fun c _ => bigSep_congr fun i _ => congrArg Φ ?_
  show c.val + 2 * i.val = _
  omega

/-- Two tiles' regions are apart, -/
theorem out_disjoint : ∀ w ∈ (Finset.univ : Finset (Fin 32)), ∀ w' ∈ (Finset.univ : Finset (Fin 32)), w ≠ w' → Disjoint (outSet w.val) (outSet w'.val) := by
  intro w _ w' _ h
  refine Finset.disjoint_left.mpr fun y hy hy' => h (Fin.ext ?_)
  have a := (mem_outSet _ y).mp hy
  have b := (mem_outSet _ y).mp hy'
  omega

/-- and the tiles' regions are all of them. -/
theorem out_cover : (Finset.univ : Finset (Fin 32)).biUnion (fun w => outSet w.val) = Finset.univ := by
  refine Finset.eq_univ_iff_forall.mpr fun y => ?_
  have hy : (y 0).val < 1024 := (y 0).isLt
  refine Finset.mem_biUnion.mpr ⟨⟨(y 0).val / 32, by omega⟩, Finset.mem_univ _, (mem_outSet _ y).mpr ?_⟩
  show 32 * ((y 0).val / 32) ≤ _ ∧ _ < 32 * ((y 0).val / 32) + 32
  omega

/-- Two tiles' corner words are apart, -/
theorem track_disjoint : ∀ w ∈ (Finset.univ : Finset (Fin 32)), ∀ w' ∈ (Finset.univ : Finset (Fin 32)), w ≠ w' → Disjoint (trackSet w.val) (trackSet w'.val) := by
  intro w _ w' _ h
  refine Finset.disjoint_left.mpr fun y hy hy' => h (Fin.ext ?_)
  have a := (mem_trackSet _ y).mp hy
  have b := (mem_trackSet _ y).mp hy'
  omega

/-- and the tiles' words are all of them. -/
theorem track_cover : (Finset.univ : Finset (Fin 32)).biUnion (fun w => trackSet w.val) = Finset.univ := by
  refine Finset.eq_univ_iff_forall.mpr fun y => ?_
  have hy : (y 0).val < 4096 := (y 0).isLt
  refine Finset.mem_biUnion.mpr ⟨⟨(y 0).val / 128, by omega⟩, Finset.mem_univ _, (mem_trackSet _ y).mpr ?_⟩
  show 128 * ((y 0).val / 128) ≤ _ ∧ _ < 128 * ((y 0).val / 128) + 128
  omega

/-- The first result, held whole, is held tile by tile; -/
theorem out_tiles (d : Dev nD) (g : S1024x256x16x16.Idx → Elt F .f32) :
    (outLoc d ↦{fullShare} g : sProp 𝕄) = bigSep Finset.univ fun w : Fin 32 => outLoc d ↦[outSet w.val]{fullShare} g := by
  rw [← pointsTo_biUnion Finset.univ (ℓ := outLoc d) (fun w : Fin 32 => outSet w.val) out_disjoint, out_cover]; try rfl

/-- so are the corner words; -/
theorem track_tiles (d : Dev nD) (t : S4096.Idx → BitVec 32) :
    (btLoc d ↦{fullShare} t : sProp 𝕄) = bigSep Finset.univ fun w : Fin 32 => btLoc d ↦[trackSet w.val]{fullShare} t := by
  rw [← pointsTo_biUnion Finset.univ (ℓ := btLoc d) (fun w : Fin 32 => trackSet w.val) track_disjoint, track_cover]; try rfl

/-- the counts are tile 0's. -/
theorem cnt_tiles (d : Dev nD) (c : S8.Idx → BitVec 32) :
    (bigSep Finset.univ fun w : Fin 32 => cntW (F := F) d w.val c) = (cntLoc d ↦{fullShare} c : sProp 𝕄) := by
  rw [bigSep_univ_at _ (0 : Fin 32), show (bigSep (Finset.univ.erase (0 : Fin 32)) fun w : Fin 32 => cntW (F := F) d w.val c) = iprop(emp) from
    (bigSep_congr fun w hw => if_neg fun e => (Finset.mem_erase.mp hw).1 (Fin.ext e)).trans (bigSep_emp_const _)]
  refine BI.equiv_iff.mp ⟨sep_emp.1, sep_emp.2⟩

/-- The remainders of the read shares, kept by @main while the call runs. -/
def restW (d : Dev nD) (fm : S8x256x128x128.Idx → Elt F .f32) (bb : S2048.Idx → BitVec 32) (ss : S1024.Idx → BitVec 32) : sProp 𝕄 :=
  iprop((fmLoc d ↦{Transfers.shareDrop fullShare 32} fm) ∗ (bbLoc d ↦{Transfers.shareDrop fullShare 32} bb) ∗ (asLoc d ↦{Transfers.shareDrop fullShare 32} ss))

/-- The six arrays whole. -/
def wholeW (d : Dev nD) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) : sProp 𝕄 :=
  iprop((fmLoc d ↦{fullShare} fm) ∗ (bbLoc d ↦{fullShare} bb) ∗ (asLoc d ↦{fullShare} ss) ∗ (outLoc d ↦{fullShare} g) ∗ (btLoc d ↦{fullShare} t) ∗ (cntLoc d ↦{fullShare} c))

/-- What all tiles are handed: the read shares of the inputs and the results whole. -/
theorem goW_tiles (d : Dev nD) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) :
    (bigSep Finset.univ fun w : Fin 32 => goW d w.val fm bb ss g t c)
      = (iprop((bigSep Finset.univ fun w : Fin 32 => fmLoc d ↦{Transfers.shareTok fullShare 32 w} fm) ∗ (bigSep Finset.univ fun w : Fin 32 => bbLoc d ↦{Transfers.shareTok fullShare 32 w} bb)
          ∗ (bigSep Finset.univ fun w : Fin 32 => asLoc d ↦{Transfers.shareTok fullShare 32 w} ss)
          ∗ (outLoc d ↦{fullShare} g) ∗ (btLoc d ↦{fullShare} t) ∗ (cntLoc d ↦{fullShare} c)) : sProp 𝕄) := by
  unfold goW
  rw [out_tiles, track_tiles, ← cnt_tiles]
  rw [bigSep_sep', bigSep_sep', bigSep_sep', bigSep_sep', bigSep_sep']

/-- The arrays dealt to the tiles, -/
theorem deal (d : Dev nD) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) :
    (wholeW d fm bb ss g t c : sProp 𝕄) ⊢ iprop(restW d fm bb ss ∗ bigSep Finset.univ fun w : Fin 32 => goW d w.val fm bb ss g t c) := by
  rw [goW_tiles]
  unfold wholeW restW
  iintro ⟨Hfm, Hbb, Has, Hout, Hbt, Hcnt⟩
  icases (Transfers.pointsTo_toks_split fullShare 32) $$ Hfm with ⟨Hfm, Hfms⟩
  icases (Transfers.pointsTo_toks_split fullShare 32) $$ Hbb with ⟨Hbb, Hbbs⟩
  icases (Transfers.pointsTo_toks_split fullShare 32) $$ Has with ⟨Has, Hass⟩
  isplitl [Hfm Hbb Has]
  · isplitl [Hfm]; · iexact Hfm
    isplitl [Hbb] <;> iassumption
  isplitl [Hfms]; · iexact Hfms
  isplitl [Hbbs]; · iexact Hbbs
  isplitl [Hass]; · iexact Hass
  isplitl [Hout]; · iexact Hout
  isplitl [Hbt] <;> iassumption

/-- and joined again. -/
theorem undeal (d : Dev nD) (fm : S8x256x128x128.Idx → Elt F .f32) (bb : S2048.Idx → BitVec 32) (ss : S1024.Idx → BitVec 32)
    (g : S1024x256x16x16.Idx → Elt F .f32) (t : S4096.Idx → BitVec 32) (c : S8.Idx → BitVec 32) :
    iprop(restW d fm bb ss ∗ bigSep Finset.univ fun w : Fin 32 => goW d w.val fm bb ss g t c) ⊢ (wholeW d fm bb ss g t c : sProp 𝕄) := by
  rw [goW_tiles]
  unfold wholeW restW
  iintro ⟨⟨Hfm, Hbb, Has⟩, Hfms, Hbbs, Hass, Hout, Hbt, Hcnt⟩
  isplitl [Hfm Hfms]
  · iapply (Transfers.pointsTo_toks_join fullShare 32)
    isplitl [Hfm] <;> iassumption
  isplitl [Hbb Hbbs]
  · iapply (Transfers.pointsTo_toks_join fullShare 32)
    isplitl [Hbb] <;> iassumption
  isplitl [Has Hass]
  · iapply (Transfers.pointsTo_toks_join fullShare 32)
    isplitl [Has] <;> iassumption
  isplitl [Hout]; · iexact Hout
  isplitl [Hbt] <;> iassumption

/-! ## The TensorCore's arrays -/

/-- The feature maps, -/
abbrev rFm : DevRef τ sig := Proc.devRef .tc (main_arg0 : Ref sig .tc)
/-- the boxes, -/
abbrev rBx : DevRef τ sig := Proc.devRef .tc (main_arg1 : Ref sig .tc)
/-- the samples, -/
abbrev rAs : DevRef τ sig := Proc.devRef .tc (main_arg2 : Ref sig .tc)
/-- the boxes' words, -/
abbrev rBb : DevRef τ sig := Proc.devRef .tc (main_v0 : Ref sig .tc)
/-- the regions, -/
abbrev rOut : DevRef τ sig := Proc.devRef .tc (main_v1_0 : Ref sig .tc)
/-- the corner words, -/
abbrev rBt : DevRef τ sig := Proc.devRef .tc (main_v1_1 : Ref sig .tc)
/-- the counts, -/
abbrev rCnt : DevRef τ sig := Proc.devRef .tc (main_v1_2 : Ref sig .tc)
/-- the corners in rows, -/
abbrev rTr : DevRef τ sig := Proc.devRef .tc (main_v2 : Ref sig .tc)
/-- the height -/
abbrev rH : DevRef τ sig := Proc.devRef .tc (main_c : Ref sig .tc)
/-- and the width, among a device's arrays. -/
abbrev rW : DevRef τ sig := Proc.devRef .tc (main_c_0 : Ref sig .tc)

/-- The ten arrays of @main. -/
abbrev S10 : Finset (DevRef τ sig) := {rFm, rBx, rAs, rBb, rOut, rBt, rCnt, rTr, rH, rW}

/-- The ten arrays held, one by one. -/
theorem held_S10 (d : Dev nD) (W : Valuation τ sig (Elt F)) :
    (held (T d) S10 W : sProp 𝕄) = iprop(((SparseCore.T d).loc main_arg0 ↦{fullShare} W rFm) ∗ ((SparseCore.T d).loc main_arg1 ↦{fullShare} W rBx) ∗ ((SparseCore.T d).loc main_arg2 ↦{fullShare} W rAs) ∗ ((SparseCore.T d).loc main_v0 ↦{fullShare} W rBb) ∗ ((SparseCore.T d).loc main_v1_0 ↦{fullShare} W rOut) ∗ ((SparseCore.T d).loc main_v1_1 ↦{fullShare} W rBt) ∗ ((SparseCore.T d).loc main_v1_2 ↦{fullShare} W rCnt) ∗ ((SparseCore.T d).loc main_v2 ↦{fullShare} W rTr) ∗ ((SparseCore.T d).loc main_c ↦{fullShare} W rH) ∗ ((SparseCore.T d).loc main_c_0 ↦{fullShare} W rW)) := by
  unfold held S10
  rw [SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide), bigSep_singleton]

/-- The TensorCore's arrays at the launch, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1_0 ↦{fullShare} W main_v1_0) ∗ ((SparseCore.T d).loc main_v1_1 ↦{fullShare} W main_v1_1) ∗ ((SparseCore.T d).loc main_v1_2 ↦{fullShare} W main_v1_2) ∗ ((SparseCore.T d).loc main_v2 ↦{fullShare} W main_v2) ∗ ((SparseCore.T d).loc main_c ↦{fullShare} W main_c) ∗ ((SparseCore.T d).loc main_c_0 ↦{fullShare} W main_c_0)) := by
  unfold unscopedBufs
  rw [show (Finset.univ.filter fun b : Ref sig .tc => ¬ b.isScoped) = {main_arg0, main_arg1, main_arg2, main_v0, main_v1_0, main_v1_1, main_v1_2, main_v2, main_c, main_c_0} by decide, SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide),SparseCore.bigSep_insert' (by decide), bigSep_singleton]

variable (m : (ℓ : Loc nD τ sig) → Buf (Elt F) ℓ) (ρ : Dev nD → PrngReg)

/-- The boxes' reshape, -/
abbrev opBx : HloOp τ sig (Elt F) := StableHlo.reshape main_arg1 main_v0 (rfl : (.i32 : EltTy) = .i32) shapeCasts_S1024x2_S2048
/-- the corners' reshape, -/
abbrev opTr : HloOp τ sig (Elt F) := StableHlo.reshape main_v1_1 main_v2 (rfl : (.i32 : EltTy) = .i32) shapeCasts_S4096_S1024x4
/-- the height's constant -/
abbrev opH : HloOp τ sig (Elt F) := StableHlo.nullary main_c (constantI S_ 32 128#32)
/-- and the width's. -/
abbrev opW : HloOp τ sig (Elt F) := StableHlo.nullary main_c_0 (constantI S_ 32 128#32)

/-- The arrays at the launch, -/
def V0 (d : Dev nD) : Valuation τ sig (Elt F) := fun b => m (d, b)
/-- after the boxes' reshape, -/
def V1 (d : Dev nD) : Valuation τ sig (Elt F) := (opBx (F := F)).result (V0 m d)
/-- after the call, -/
def V2 (d : Dev nD) : Valuation τ sig (Elt F) :=
  Function.update (Function.update (Function.update (V1 m d) rOut (outV (m (fmLoc d)) (bbOf m d) (m (asLoc d)))) rBt (trackV (bbOf m d))) rCnt (cntV (m (asLoc d)))
/-- and at the end. -/
def V5 (d : Dev nD) : Valuation τ sig (Elt F) := (opW (F := F)).result ((opH (F := F)).result ((opTr (F := F)).result (V2 m d)))

/-- The launch hands over the ten arrays. -/
theorem unscoped_held (d : Dev nD) : (unscopedBufs d (fun b => m ((SparseCore.T d).loc b)) : sProp 𝕄) = held (T d) S10 (V0 m d) := by
  rw [unscopedBufs_eq, held_S10]; rfl

/-- The reshape writes the boxes' words in a row -/
theorem V1_bb (d : Dev nD) : V1 m d rBb = bbOf m d := StableHlo.reshape_result _ _ _ _ _ _ _
/-- and nothing else. -/
theorem V1_ne (d : Dev nD) {r : Ref sig .tc} (h : r ≠ main_v0) : V1 m d (Proc.devRef .tc r) = m (d, Proc.devRef .tc r) :=
  StableHlo.reshape_result_ne _ _ _ _ _ _ _ h

/-- The call writes the regions, -/
theorem V2_out (d : Dev nD) : V2 m d rOut = outV (m (fmLoc d)) (bbOf m d) (m (asLoc d)) := by
  unfold V2
  rw [Function.update_of_ne (show rOut ≠ rCnt by decide), Function.update_of_ne (show rOut ≠ rBt by decide), Function.update_self]
/-- the corner words -/
theorem V2_bt (d : Dev nD) : V2 m d rBt = trackV (bbOf m d) := by
  unfold V2
  rw [Function.update_of_ne (show rBt ≠ rCnt by decide), Function.update_self]
/-- and the counts, -/
theorem V2_cnt (d : Dev nD) : V2 m d rCnt = cntV (m (asLoc d)) := Function.update_self _ _ _
/-- and nothing else. -/
theorem V2_ne (d : Dev nD) {b : DevRef τ sig} (h₁ : b ≠ rOut) (h₂ : b ≠ rBt) (h₃ : b ≠ rCnt) : V2 m d b = V1 m d b := by
  unfold V2
  rw [Function.update_of_ne h₃, Function.update_of_ne h₂, Function.update_of_ne h₁]

/-- The last operations write three results only: -/
theorem V5_ne (d : Dev nD) {r : Ref sig .tc} (h₁ : r ≠ main_v2) (h₂ : r ≠ main_c) (h₃ : r ≠ main_c_0) :
    V5 m d (Proc.devRef .tc r) = V2 m d (Proc.devRef .tc r) := by
  unfold V5
  rw [StableHlo.nullary_result_ne _ _ _ _ h₃, StableHlo.nullary_result_ne _ _ _ _ h₂, StableHlo.reshape_result_ne _ _ _ _ _ _ _ h₁]
/-- the height, -/
theorem V5_h (d : Dev nD) : V5 m d rH = constantI S_ 32 128#32 := by
  unfold V5
  rw [StableHlo.nullary_result_ne _ _ _ _ (by decide), StableHlo.nullary_result]
/-- the width -/
theorem V5_w (d : Dev nD) : V5 m d rW = constantI S_ 32 128#32 := by
  unfold V5
  rw [StableHlo.nullary_result]
/-- and the corner words as rows of four. -/
theorem V5_tr (d : Dev nD) : V5 m d rTr = shapeCast S1024x4 (trackV (bbOf m d)) shapeCasts_S4096_S1024x4 := by
  unfold V5
  rw [StableHlo.nullary_result_ne _ _ _ _ (by decide), StableHlo.nullary_result_ne _ _ _ _ (by decide)]
  refine (StableHlo.reshape_result _ _ _ _ _ _ _).trans ?_
  show shapeCast S1024x4 (V2 m d rBt) shapeCasts_S4096_S1024x4 = _
  rw [V2_bt]

/-- The arrays held before the call are the six the call takes and four others; -/
theorem held_V1 (d : Dev nD) : (held (T d) S10 (V1 m d) : sProp 𝕄) ⊢ iprop(wholeW d (m (fmLoc d)) (bbOf m d) (m (asLoc d)) (m (outLoc d)) (m (btLoc d)) (m (cntLoc d))
    ∗ ((SparseCore.T d).loc main_arg1 ↦{fullShare} m ((SparseCore.T d).loc main_arg1)) ∗ ((SparseCore.T d).loc main_v2 ↦{fullShare} m ((SparseCore.T d).loc main_v2))
    ∗ ((SparseCore.T d).loc main_c ↦{fullShare} m ((SparseCore.T d).loc main_c)) ∗ ((SparseCore.T d).loc main_c_0 ↦{fullShare} m ((SparseCore.T d).loc main_c_0))) := by
  rw [held_S10, V1_bb, V1_ne m d (r := main_arg0) (by decide), V1_ne m d (r := main_arg1) (by decide), V1_ne m d (r := main_arg2) (by decide), V1_ne m d (r := main_v1_0) (by decide), V1_ne m d (r := main_v1_1) (by decide), V1_ne m d (r := main_v1_2) (by decide), V1_ne m d (r := main_v2) (by decide), V1_ne m d (r := main_c) (by decide), V1_ne m d (r := main_c_0) (by decide)]
  unfold wholeW
  iintro ⟨H0, H1, H2, H3, H4, H5, H6, H7, H8, H9⟩
  isplitl [H0 H2 H3 H4 H5 H6]
  · isplitl [H0]; · iexact H0
    isplitl [H3]; · iexact H3
    isplitl [H2]; · iexact H2
    isplitl [H4]; · iexact H4
    isplitl [H5] <;> iassumption
  isplitl [H1]; · iexact H1
  isplitl [H7]; · iexact H7
  isplitl [H8] <;> iassumption

/-- and after it. -/
theorem held_V2 (d : Dev nD) : iprop(wholeW d (m (fmLoc d)) (bbOf m d) (m (asLoc d)) (outV (m (fmLoc d)) (bbOf m d) (m (asLoc d))) (trackV (bbOf m d)) (cntV (m (asLoc d)))
    ∗ ((SparseCore.T d).loc main_arg1 ↦{fullShare} m ((SparseCore.T d).loc main_arg1)) ∗ ((SparseCore.T d).loc main_v2 ↦{fullShare} m ((SparseCore.T d).loc main_v2))
    ∗ ((SparseCore.T d).loc main_c ↦{fullShare} m ((SparseCore.T d).loc main_c)) ∗ ((SparseCore.T d).loc main_c_0 ↦{fullShare} m ((SparseCore.T d).loc main_c_0)))
    ⊢ (held (T d) S10 (V2 m d) : sProp 𝕄) := by
  rw [held_S10, V2_out, V2_bt, V2_cnt, V2_ne m d (b := rFm) (by decide) (by decide) (by decide), V2_ne m d (b := rBx) (by decide) (by decide) (by decide), V2_ne m d (b := rAs) (by decide) (by decide) (by decide), V2_ne m d (b := rBb) (by decide) (by decide) (by decide), V2_ne m d (b := rTr) (by decide) (by decide) (by decide), V2_ne m d (b := rH) (by decide) (by decide) (by decide), V2_ne m d (b := rW) (by decide) (by decide) (by decide),
    V1_bb, V1_ne m d (r := main_arg0) (by decide), V1_ne m d (r := main_arg1) (by decide), V1_ne m d (r := main_arg2) (by decide), V1_ne m d (r := main_v2) (by decide), V1_ne m d (r := main_c) (by decide), V1_ne m d (r := main_c_0) (by decide)]
  unfold wholeW
  iintro ⟨⟨H0, H3, H2, H4, H5, H6⟩, H1, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

/-- What the call takes for the two SparseCores, and what it hands back. -/
theorem st0_eq (d : Dev nD) : (bigSep Finset.univ fun c : Fin ((K (F := F)).nCore 0) => (P m).st 0 d c) = bigSep Finset.univ fun w : Fin 32 => goM m d w.val :=
  tiles_eq (F := F) fun w => goM m d w
/-- What the call hands back is what the tiles hand back. -/
theorem dn0_eq (d : Dev nD) : (bigSep Finset.univ fun c : Fin ((K (F := F)).nCore 0) => (P m).dn 0 d c) = bigSep Finset.univ fun w : Fin 32 => tdM m d w.val :=
  tiles_eq (F := F) fun w => tdM m d w

variable [FloatOps F]

omit [FloatOps F] in
/-- The boxes' reshape touches only the ten arrays, -/
theorem hBx : (opBx (F := F)).bufs ⊆ S10 := show ({rBx, rBb} : Finset (DevRef τ sig)) ⊆ S10 by decide
omit [FloatOps F] in
/-- so does the corners' reshape, -/
theorem hTr : (opTr (F := F)).bufs ⊆ S10 := show ({rBt, rTr} : Finset (DevRef τ sig)) ⊆ S10 by decide
omit [FloatOps F] in
/-- the height's constant -/
theorem hH : (opH (F := F)).bufs ⊆ S10 := show ({rH} : Finset (DevRef τ sig)) ⊆ S10 by decide
omit [FloatOps F] in
/-- and the width's. -/
theorem hW : (opW (F := F)).bufs ⊆ S10 := show ({rW} : Finset (DevRef τ sig)) ⊆ S10 by decide

/-- @main on the TensorCore: the reshape, the call, the reshape and the constants. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) S10 (V5 m d) ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opBx) (S := S10) hBx (V := V0 m d)) $$ [Hb Hheld]
  · isplitl [Hb] <;> iassumption
  iintro ⟨Hb, Hheld⟩
  rw [wp_ret]; imodintro
  ihave Hheld := (Entails.of_eq (show (held (T d) S10 ((opBx (F := F)).result (V0 m d)) : sProp 𝕄) = held (T d) S10 (V1 m d) from rfl)) $$ Hheld
  icases (held_V1 m d) $$ Hheld with ⟨Hall, H1, H7, H8, H9⟩
  icases (deal d _ _ _ _ _ _) $$ Hall with ⟨Hrest, Hgo⟩
  iapply ((K (F := F)).wp_run (D (F := F)) 𝒱 (EH := EH) (P := P m) κ d 0) $$ [Hst Hgo Hb Hrest H1 H7 H8 H9 Hts]
  isplitr; · iexact Hctx
  isplitl [Hst]; · iexact Hst
  isplitl [Hgo]
  · rw [st0_eq]; iexact Hgo
  iintro ⟨Hst, Hdn⟩
  ihave Hdn := (Entails.of_eq (dn0_eq m d)) $$ Hdn
  ihave Hall := (undeal d (m (fmLoc d)) (bbOf m d) (m (asLoc d)) (outV (m (fmLoc d)) (bbOf m d) (m (asLoc d))) (trackV (bbOf m d)) (cntV (m (asLoc d)))) $$ [Hrest Hdn]
  · isplitl [Hrest]; · iexact Hrest
    iexact Hdn
  ihave Hheld := (held_V2 m d) $$ [Hall H1 H7 H8 H9]
  · isplitl [Hall]; · iexact Hall
    isplitl [H1]; · iexact H1
    isplitl [H7]; · iexact H7
    isplitl [H8] <;> iassumption
  iapply (wp_hlo_within 𝒱 (SparseCore.T d) none Set.univ (op := opTr) (S := S10) hTr (V := V2 m d)) $$ [Hb Hheld]
  · isplitl [Hb] <;> iassumption
  iintro ⟨Hb, Hheld⟩
  rw [wp_ret]; imodintro
  iapply (wp_hlo_within 𝒱 (SparseCore.T d) none Set.univ (op := opH) (S := S10) hH) $$ [Hb Hheld]
  · isplitl [Hb] <;> iassumption
  iintro ⟨Hb, Hheld⟩
  rw [wp_ret]; imodintro
  iapply (wp_hlo_within 𝒱 (SparseCore.T d) none Set.univ (op := opW) (S := S10) hW) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-- The final memory's arrays. -/
def fq (d : Dev nD) (s' : Phys nD τ sig (Elt F)) : Prop := ∀ b ∈ S10, s'.mem.mem (d, b) = V5 m d b

omit [FloatOps F] in
/-- The arrays held at the end are the memory's. -/
theorem hfin (d : Dev nD) (s' : Phys nD τ sig (Elt F)) : iprop(held (T d) S10 (V5 m d) ∗ SI s') ⊢ (⌜fq m d s'⌝ : sProp 𝕄) := by
  refine (forall_intro fun b => ?_).trans pure_forall.2
  by_cases hb : b ∈ S10
  · unfold held
    rw [SparseCore.bigSep_erase' hb]
    iintro ⟨⟨H, -⟩, HSI⟩
    ihave H := (SI_pointsTo_agree (st := s') (ℓ := (d, b)) (I := Finset.univ) (q := fullShare) (f := V5 m d b)) $$ [HSI H]
    · isplitl [HSI] <;> iassumption
    icases H with %h
    ipureintro; exact fun _ => funext fun i => h i (Finset.mem_univ i)
  · exact BIClass.pure_intro fun h => absurd h hb

/-- The five results, the arguments as they were, and every semaphore at zero. -/
def QC : PUnit × MemSt nD τ sig (Elt F) → Prop := fun r =>
  (∀ c : Dev nD, r.2.mem (outLoc c) = outV (m (fmLoc c)) (bbOf m c) (m (asLoc c))
    ∧ r.2.mem ((SparseCore.T c).loc main_v2) = shapeCast S1024x4 (trackV (bbOf m c)) shapeCasts_S4096_S1024x4
    ∧ r.2.mem (cntLoc c) = cntV (m (asLoc c))
    ∧ r.2.mem ((SparseCore.T c).loc main_c) = constantI S_ 32 128#32
    ∧ r.2.mem ((SparseCore.T c).loc main_c_0) = constantI S_ 32 128#32
    ∧ r.2.mem (fmLoc c) = m (fmLoc c)
    ∧ r.2.mem ((SparseCore.T c).loc main_arg1) = m ((SparseCore.T c).loc main_arg1)
    ∧ r.2.mem (asLoc c) = m (asLoc c)) ∧ r.2.sem = fun _ => 0

omit [FloatOps F] in
/-- The memory's arrays at the end are the five results and the arguments. -/
theorem fq_QC (s' : Phys nD τ sig (Elt F)) (h : ∀ d, fq m d s') (hz : s'.mem.sem = fun _ => 0) : QC m (⟨⟩, s'.mem) := by
  refine ⟨fun c => ⟨?_, ?_, ?_, ?_, ?_, ?_, ?_, ?_⟩, hz⟩
  · exact ((h c rOut (by decide)).trans (V5_ne m c (r := main_v1_0) (by decide) (by decide) (by decide))).trans (V2_out m c)
  · exact (h c rTr (by decide)).trans (V5_tr m c)
  · exact ((h c rCnt (by decide)).trans (V5_ne m c (r := main_v1_2) (by decide) (by decide) (by decide))).trans (V2_cnt m c)
  · exact (h c rH (by decide)).trans (V5_h m c)
  · exact (h c rW (by decide)).trans (V5_w m c)
  · exact (((h c rFm (by decide)).trans (V5_ne m c (r := main_arg0) (by decide) (by decide) (by decide))).trans (V2_ne m c (b := rFm) (by decide) (by decide) (by decide))).trans (V1_ne m c (r := main_arg0) (by decide))
  · exact (((h c rBx (by decide)).trans (V5_ne m c (r := main_arg1) (by decide) (by decide) (by decide))).trans (V2_ne m c (b := rBx) (by decide) (by decide) (by decide))).trans (V1_ne m c (r := main_arg1) (by decide))
  · exact (((h c rAs (by decide)).trans (V5_ne m c (r := main_arg2) (by decide) (by decide) (by decide))).trans (V2_ne m c (b := rAs) (by decide) (by decide) (by decide))).trans (V1_ne m c (r := main_arg2) (by decide))

/-- The program's run, of inputs in range. -/
theorem run_main [∀ e, Nonempty (Elt F e)] (hr : ∀ d, InRange (bbOf m d) (m (asLoc d))) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hr)
    (fun q _ => match q with | 0 => SparseCore.Cfg.VecSplit.of_plain (vecSplit m))
    m ρ main (fun _ => iprop(emp)) (fun d => held (T d) S10 (V5 m d)) (u₀ (F := F)) (sep_elim_left.trans (hu₀ m)) (hmain m ρ) (fq m) (hfin m) (QC m) (fq_QC m)

end Cert.Proof.RoiIdeal

end
-- ==== Proof.InputsIdeal.lean ====
/-
  The inputs the preconditions speak of, read as the tables the tiles search.
-/
module

public import proofs.«01_k».proof.Proof.MainIdeal
public import proofs.«01_k».proof.Proof.Decode

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The boxes laid flat, read at coordinate `r` of box `n`. -/
theorem boxAt_pairs (A : Decode.SN2.Idx → BitVec 32) (h : S1024x2.ShapeCasts S2048) (n r : ℕ) (hn : n < 1024) (hr : r < 2) :
    boxAt (shapeCast S2048 A h) (2 * n + r) = A (Decode.at2 n r hn hr) := by
  unfold boxAt
  refine shapeCast_apply _ h _ _ ?_
  rw [Shape.rowMajor_val_one, Shape.rowMajor_val_two]
  show n * 2 + r = (2 * n + r) % 2048
  omega

/-- The samples read at a position. -/
theorem sampleAt_pos (s : Decode.SN.Idx → BitVec 32) (n : ℕ) (hn : n < 1024) : sampleAt s n = s (Decode.at1 n hn) := by
  unfold sampleAt
  refine congrArg s (funext fun a => Fin.ext ?_)
  match a with
  | ⟨0, _⟩ => exact Nat.mod_eq_of_lt hn

/-- Columns below 112 and samples below eight put the tables in range. -/
theorem inRange_of (A : Decode.SN2.Idx → BitVec 32) (s : Decode.SN.Idx → BitVec 32) (h : S1024x2.ShapeCasts S2048)
    (H : ∀ (n : ℕ) (hn : n < 1024), (A (Decode.at2 n 1 hn (by decide))).toInt < 112 ∧ (s (Decode.at1 n hn)).toNat < 8) :
    InRange (shapeCast S2048 A h) s where
  smp n hn := by rw [sampleAt_pos s n hn]; exact (H n hn).2
  col n hn := by rw [boxAt_pairs A h n 1 hn (by decide)]; exact (H n hn).1

end Cert.Proof.RoiIdeal

end
-- ==== Proof.CountsIdeal.lean ====
/-
  The counts of the third result, of samples in ascending order whose first two are equal: the search for `b` ends at the
  number of samples at most `b`, so that a count is the number of samples equal to `b`.
-/
module

public import proofs.«01_k».proof.Proof.TileIdeal
public import Idealize.ShloMosaic.Lib.StableHlo.Predicate

@[expose] public section

noncomputable section

namespace Cert.Proof.RoiIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The samples at most `b` among the table's. -/
def belowSet (ss : S1024.Idx → BitVec 32) (b : ℕ) : Finset ℕ := (Finset.range 1024).filter fun n => (sampleAt ss n).toNat ≤ b

/-- The samples equal to `b`. -/
def equalSet (ss : S1024.Idx → BitVec 32) (b : ℕ) : Finset ℕ := (Finset.range 1024).filter fun n => (sampleAt ss n).toNat = b

/-- A set of natural numbers that holds, with each, all smaller ones is an initial segment. -/
theorem initial_iff (A : Finset ℕ) (hA : ∀ n ∈ A, ∀ k < n, k ∈ A) (n : ℕ) : n ∈ A ↔ n < A.card := by
  constructor
  · intro h
    have hs : Finset.range (n + 1) ⊆ A := fun k hk => by
      rcases Nat.lt_succ_iff_lt_or_eq.mp (Finset.mem_range.mp hk) with h' | rfl
      · exact hA n h k h'
      · exact h
    have := Finset.card_le_card hs
    rw [Finset.card_range] at this
    omega
  · intro h
    by_contra hn
    have hs : A ⊆ Finset.range n := fun k hk => by
      rw [Finset.mem_range]
      by_contra hk'
      rcases Nat.lt_or_eq_of_le (Nat.le_of_not_lt hk') with h' | h'
      · exact hn (hA k hk n h')
      · exact hn (h' ▸ hk)
    have := Finset.card_le_card hs
    rw [Finset.card_range] at this
    omega

/-- The samples of the table are below eight, ascending, and the first two are equal. -/
structure Ascending (ss : S1024.Idx → BitVec 32) : Prop where
  smp : ∀ n < 1024, (sampleAt ss n).toNat < 8
  step : ∀ n, n + 1 < 1024 → (sampleAt ss n).toNat ≤ (sampleAt ss (n + 1)).toNat
  first : sampleAt ss 0 = sampleAt ss 1

variable {ss : S1024.Idx → BitVec 32}

/-- Ascending steps ascend over any distance. -/
theorem Ascending.mono (h : Ascending ss) {n : ℕ} : ∀ k, n + k < 1024 → (sampleAt ss n).toNat ≤ (sampleAt ss (n + k)).toNat
  | 0, _ => Nat.le_refl _
  | k + 1, hk => (h.mono k (by omega)).trans (h.step (n + k) (by omega))

/-- The samples at most `b` are the first ones. -/
theorem mem_below (h : Ascending ss) (b n : ℕ) (hn : n < 1024) : (sampleAt ss n).toNat ≤ b ↔ n < (belowSet ss b).card := by
  rw [← initial_iff (belowSet ss b)]
  · unfold belowSet
    rw [Finset.mem_filter, Finset.mem_range]
    exact ⟨fun e => ⟨hn, e⟩, fun e => e.2⟩
  · intro m hm k hk
    unfold belowSet at hm ⊢
    rw [Finset.mem_filter, Finset.mem_range] at hm ⊢
    have e := h.mono (n := k) (m - k) (by omega)
    rw [Nat.add_sub_cancel' (Nat.le_of_lt hk)] at e
    exact ⟨by omega, e.trans hm.2⟩

/-- At most all samples are below. -/
theorem below_le (b : ℕ) : (belowSet ss b).card ≤ 1024 :=
  (Finset.card_filter_le _ _).trans (Finset.card_range 1024).le

/-- The search's comparison, in natural numbers. -/
theorem above_iff (h : Ascending ss) (b : ℕ) (hb : b < 8) (m : ℕ) (hm : m < 1024) :
    Scalar.cmpi .sgt (sampleAt ss m) (BitVec.ofNat 32 b) = 1#1 ↔ (belowSet ss b).card ≤ m := by
  have hs := h.smp m hm
  have hb' : (BitVec.ofNat 32 b).toNat = b := by rw [BitVec.toNat_ofNat]; omega
  have e := StableHlo.Predicate.sgt_iff_toNat (a := sampleAt ss m) (b := BitVec.ofNat 32 b) (by omega) (by omega)
  rw [hb'] at e
  have e' := mem_below h b m hm
  refine (show _ ↔ b < (sampleAt ss m).toNat from e).trans ?_
  omega

/-- The search's interval after `k` steps: it holds the number sought, and it is the first `2 ^ (10 - k)` or one shorter. -/
theorem search_holds (h : Ascending ss) (b : ℕ) (hb : b < 8) : ∀ k ≤ 10,
    (searchN ss (BitVec.ofNat 32 b) k).1.toNat ≤ (belowSet ss b).card ∧ (belowSet ss b).card ≤ (searchN ss (BitVec.ofNat 32 b) k).2.toNat
      ∧ ((searchN ss (BitVec.ofNat 32 b) k).1.toNat = 0 ∧ (searchN ss (BitVec.ofNat 32 b) k).2.toNat = 2 ^ (10 - k)
        ∨ (searchN ss (BitVec.ofNat 32 b) k).2.toNat + 1 = (searchN ss (BitVec.ofNat 32 b) k).1.toNat + 2 ^ (10 - k))
  | 0, _ => ⟨Nat.zero_le _, below_le b, Or.inl ⟨rfl, rfl⟩⟩
  | k + 1, hk => by
    have ih := search_holds h b hb k (by omega)
    have hmid := searchN_mid ss (BitVec.ofNat 32 b) k (by omega)
    have hlen := searchN_len ss (BitVec.ofNat 32 b) k (by omega)
    have hp : 2 ^ (10 - k) = 2 * 2 ^ (10 - (k + 1)) := by rw [← Nat.pow_succ']; congr 1; omega
    have hpos : 0 < 2 ^ (10 - (k + 1)) := Nat.two_pow_pos _
    show _ ≤ _ ∧ _
    rw [show searchN ss (BitVec.ofNat 32 b) (k + 1) = searchStep ss (BitVec.ofNat 32 b) (searchN ss (BitVec.ofNat 32 b) k) from rfl]
    generalize searchN ss (BitVec.ofNat 32 b) k = p at ih hmid hlen
    generalize 2 ^ (10 - (k + 1)) = m at hp hpos
    rw [hp] at ih hlen
    have hm := midW_toNat p.1 p.2 (by omega) hlen.1
    have hs := mid_succ_toNat (midW p.1 p.2) (by omega)
    have ha := above_iff h b hb (midW p.1 p.2).toNat hmid
    unfold searchStep Scalar.select
    simp only
    split
    · next hc =>
      have := ha.mp hc
      omega
    · next hc =>
      have := Nat.lt_of_not_le fun e => hc (ha.mpr e)
      rw [hs]
      omega

/-- The search ends at the number of samples at most `b`. -/
theorem bound_eq (h : Ascending ss) (b : ℕ) (hb : b < 8) : (boundOf ss (BitVec.ofNat 32 b)).toNat = (belowSet ss b).card := by
  have e := search_holds h b hb 10 (le_refl _)
  have e₀ := mem_below h b 0 (by decide)
  have e₁ := mem_below h b 1 (by decide)
  rw [h.first] at e₀
  unfold boundOf
  simp only [Nat.sub_self, pow_zero] at e
  omega

/-- A sample at most `b` is `b` or at most its predecessor. -/
theorem below_succ (b : ℕ) : (belowSet ss (b + 1)).card = (belowSet ss b).card + (equalSet ss (b + 1)).card := by
  unfold belowSet equalSet
  rw [← Finset.card_union_of_disjoint]
  · rw [← Finset.filter_or]
    refine congrArg Finset.card (Finset.filter_congr fun n _ => ?_)
    omega
  · refine Finset.disjoint_left.mpr fun n hn hn' => ?_
    have a := (Finset.mem_filter.mp hn).2
    have b := (Finset.mem_filter.mp hn').2
    omega

/-- The samples at most 0 are those equal to 0. -/
theorem below_zero : (belowSet ss 0).card = (equalSet ss 0).card := by
  unfold belowSet equalSet
  refine congrArg Finset.card (Finset.filter_congr fun n _ => ?_)
  omega

/-- A difference of words, in natural numbers. -/
theorem subi_toNat (x y : BitVec 32) : (Scalar.subi x y).toNat = (2 ^ 32 - y.toNat + x.toNat) % 2 ^ 32 := BitVec.toNat_sub x y

/-- The third result counts the samples equal to each index. -/
theorem cntV_eq (h : Ascending ss) (y : S8.Idx) : cntV ss y = BitVec.ofNat 32 (equalSet ss (y 0).val).card := by
  have hy : (y 0).val < 8 := (y 0).isLt
  unfold cntV
  generalize (y 0).val = b at hy
  have hb := bound_eq h b hy
  have hl := below_le (ss := ss) b
  refine BitVec.eq_of_toNat_eq ?_
  rw [BitVec.toNat_ofNat]
  rcases b with _ | b
  · rw [if_pos rfl, subi_toNat, hb, below_zero]
    rw [below_zero] at hl
    show (2 ^ 32 - 0 + _) % _ = _
    omega
  · have hb' := bound_eq h b (by omega)
    have hu := below_succ (ss := ss) b
    rw [if_neg (Nat.succ_ne_zero b), Nat.add_sub_cancel, subi_toNat, hb, hb']
    omega

end Cert.Proof.RoiIdeal

end
-- ==== Proof.Reference.lean ====
/-
  The reference's three arrays of results read at an index, of samples in range: the regions, the corners and the counts.
-/
module

public import proofs.«01_k».proof.Proof.Gen.ReferenceIdeal
public import proofs.«01_k».proof.Proof.Decode
public import proofs.«01_k».proof.Proof.InputsIdeal
public import proofs.«01_k».proof.Proof.CountsIdeal
public import Idealize.ShloMosaic.Lib.Routing.OpsPair

@[expose] public section

noncomputable section

namespace Cert.Proof.Reference

open Cert.ReferenceIdeal Cert.ReferenceIdeal.Gen
open Cert.Proof.Decode (at1 at2)
open Cert.Proof.RoiIdeal (clipW clipN clipN_le boxAt sampleAt outV at4 trackV trackN pick4 cntV boxAt_pairs sampleAt_pos equalSet Ascending cntV_eq)
open Idealize.ShloMosaic

/-! ## Columns of words -/

/-- A word repeated. -/
abbrev same (c : BitVec 32) : IVec S1024 32 := broadcastInDim S1024 ![] bcast_S_S1024 (constantI S_ 32 c)

/-- Coordinate `r` of every box. -/
def coord (A : IVec S1024x2 32) (r : ℕ) (hs : S1024x2.Slices ![0, r] S1024x1) : IVec S1024 32 :=
  shapeCast S1024 (extractStridedSlice S1024x1 ![0, r] A hs) shapeCasts_S1024x1_S1024

/-- A coordinate clipped as the reference clips it. -/
def clipped (x : IVec S1024 32) : IVec S1024 32 :=
  minsi (broadcastInDim S1024 ![] bcast_S_S1024 (id (constantI S_ 32 112#32))) (maxsi (broadcastInDim S1024 ![] bcast_S_S1024 (id (constantI S_ 32 0#32))) x)

/-- A negative position counted from the end, as an index is read. -/
def wrapped (x : IVec S1024 32) (c : BitVec 32) : IVec S1024 32 := select (cmpi .slt x (same 0#32)) (addi x (same c)) x

/-- A vector stood up as a column. -/
def column (x : IVec S1024 32) : IVec S1024x1 32 := broadcastInDim S1024x1 ![0] bcast_S1024_S1024x1_0 x

/-- Four columns side by side. -/
def join (a b c d : IVec S1024x1 32) : IVec S1024x4 32 :=
  concatenate S1024x4 1 [⟨S1024x1, a⟩, ⟨S1024x1, b⟩, ⟨S1024x1, c⟩, ⟨S1024x1, d⟩] concatenates_S1024x1_S1024x1_S1024x1_S1024x1_S1024x4_d1

/-- A box's coordinate, by the box's number. -/
theorem coord_apply (A : IVec S1024x2 32) (r : ℕ) (hs : S1024x2.Slices ![0, r] S1024x1) (n : ℕ) (hn : n < 1024) (hr : r < 2) :
    coord A r hs (at1 n hn) = A (at2 n r hn hr) := by
  unfold coord
  rw [shapeCast_apply _ shapeCasts_S1024x1_S1024 (at1 n hn) (at2 n 0 hn (by decide)) (by rw [Shape.rowMajor_val_one, Shape.rowMajor_val_two]; show n * 1 + 0 = n; omega)]
  unfold extractStridedSlice
  refine congrArg A (funext fun a => Fin.ext ?_)
  match a with
  | ⟨0, _⟩ => exact Nat.zero_add _
  | ⟨1, _⟩ => rfl

/-- The two orders of a clip's operands agree. -/
theorem clip_comm (v : BitVec 32) : IntOp.minsi 112#32 (IntOp.maxsi 0#32 v) = clipW v := by
  have e0 : (0#32 : BitVec 32).toInt = 0 := by decide
  have e1 : (112#32 : BitVec 32).toInt = 112 := by decide
  simp only [clipW, Scalar.minsi, Scalar.maxsi, IntOp.minsi, IntOp.maxsi, BitVec.slt_eq_decide, decide_eq_true_eq]
  refine BitVec.eq_of_toInt_eq ?_
  split_ifs at * <;> omega

/-- A clipped vector, element by element. -/
theorem clipped_apply (x : IVec S1024 32) (i : S1024.Idx) : clipped x i = clipW (x i) := clip_comm (x i)

/-- A word not negative is not counted from the end. -/
theorem wrapped_apply (x : IVec S1024 32) (c : BitVec 32) (i : S1024.Idx) (h : 0 ≤ (x i).toInt) : wrapped x c i = x i := by
  have e : IntOp.cmpi .slt (x i) 0#32 ≠ 1#1 := fun e => by
    have := Decode.slt_set e
    have e0 : (0#32 : BitVec 32).toInt = 0 := by decide
    omega
  exact if_neg e

/-- A column's element. -/
theorem column_apply (x : IVec S1024 32) (n : ℕ) (hn : n < 1024) : column x (at2 n 0 hn (by decide)) = x (at1 n hn) := by
  unfold column broadcastInDim
  refine congrArg x (funext fun a => Fin.ext ?_)
  match a with
  | ⟨0, _⟩ => rfl

/-- Four columns side by side, read in column zero. -/
theorem join_zero (a b c d : IVec S1024x1 32) (n : ℕ) (hn : n < 1024) : join a b c d (at2 n 0 hn (by decide)) = a (at2 n 0 hn (by decide)) := by
  unfold join concatenate
  refine congrArg a (funext fun k => Fin.ext ?_)
  match k with
  | ⟨0, _⟩ => rfl
  | ⟨1, _⟩ => rfl

/-- Four columns side by side, read in column one. -/
theorem join_one (a b c d : IVec S1024x1 32) (n : ℕ) (hn : n < 1024) : join a b c d (at2 n 1 hn (by decide)) = b (at2 n 0 hn (by decide)) := by
  unfold join concatenate
  refine congrArg b (funext fun k => Fin.ext ?_)
  match k with
  | ⟨0, _⟩ => rfl
  | ⟨1, _⟩ => rfl

/-- Four columns side by side, read in column two. -/
theorem join_two (a b c d : IVec S1024x1 32) (n : ℕ) (hn : n < 1024) : join a b c d (at2 n 2 hn (by decide)) = c (at2 n 0 hn (by decide)) := by
  unfold join concatenate
  refine congrArg c (funext fun k => Fin.ext ?_)
  match k with
  | ⟨0, _⟩ => rfl
  | ⟨1, _⟩ => rfl

/-- Four columns side by side, read in column three. -/
theorem join_three (a b c d : IVec S1024x1 32) (n : ℕ) (hn : n < 1024) : join a b c d (at2 n 3 hn (by decide)) = d (at2 n 0 hn (by decide)) := by
  unfold join concatenate
  refine congrArg d (funext fun k => Fin.ext ?_)
  match k with
  | ⟨0, _⟩ => rfl
  | ⟨1, _⟩ => rfl

/-! ## The corners -/

variable (A : IVec S1024x2 32) (s : IVec S1024 32)

/-- The boxes' clipped rows. -/
abbrev ys : IVec S1024 32 := clipped (coord A 0 slices_S1024x2_S1024x1_0_0)
/-- The boxes' clipped columns. -/
abbrev xs : IVec S1024 32 := clipped (coord A 1 slices_S1024x2_S1024x1_0_1)

/-- A box's clipped row. -/
theorem ys_apply (n : ℕ) (hn : n < 1024) : ys A (at1 n hn) = clipW (A (at2 n 0 hn (by decide))) := by
  rw [ys, clipped_apply, coord_apply A 0 _ n hn (by decide)]

/-- A box's clipped column. -/
theorem xs_apply (n : ℕ) (hn : n < 1024) : xs A (at1 n hn) = clipW (A (at2 n 1 hn (by decide))) := by
  rw [xs, clipped_apply, coord_apply A 1 _ n hn (by decide)]

/-- The boxes' corners and far corners, as the reference stacks them. -/
def tracks : IVec S1024x4 32 := join (column (ys A)) (column (xs A)) (column (addi (ys A) (same 16#32))) (column (addi (xs A) (same 16#32)))

/-- The kernel's second result is the reference's. -/
theorem tracks_eq (h : S1024x2.ShapeCasts ⟨1, ![2048]⟩) (h' : Shape.ShapeCasts ⟨1, ![4096]⟩ S1024x4) :
    tracks A = shapeCast S1024x4 (trackV (shapeCast _ A h)) h' := by
  funext y
  have h0 : (y 0).val < 1024 := (y 0).isLt
  have h1 : (y 1).val < 4 := (y 1).isLt
  have ey : y = at2 (y 0).val (y 1).val h0 h1 := by
    funext a
    match a with
    | ⟨0, _⟩ => rfl
    | ⟨1, _⟩ => rfl
  rw [ey]
  generalize (y 0).val = n at h0
  generalize (y 1).val = r at h1
  rw [shapeCast_apply _ h' (at2 n r h0 h1) (at1 (4 * n + r) (by omega)) (by rw [Shape.rowMajor_val_one, Shape.rowMajor_val_two]; show 4 * n + r = n * 4 + r; omega)]
  show _ = trackN (shapeCast _ A h) (4 * n + r)
  unfold trackN
  rw [show (4 * n + r) / 4 = n by omega, show (4 * n + r) % 4 = r by omega, boxAt_pairs A h n 1 h0 (by decide),
    show 2 * n = 2 * n + 0 from rfl, boxAt_pairs A h n 0 h0 (by decide)]
  unfold tracks pick4
  match r, h1 with
  | 0, _ => rw [join_zero, column_apply, ys_apply, if_pos rfl]
  | 1, _ => rw [join_one, column_apply, xs_apply, if_neg (by decide), if_pos rfl]
  | 2, _ =>
    rw [join_two, column_apply, if_neg (by decide), if_neg (by decide), if_pos rfl]
    exact congrArg (fun v => IntOp.addi v 16#32) (ys_apply A n h0)
  | 3, _ =>
    rw [join_three, column_apply, if_neg (by decide), if_neg (by decide), if_neg (by decide)]
    exact congrArg (fun v => IntOp.addi v 16#32) (xs_apply A n h0)

/-! ## The regions -/

/-- The starts of the regions. -/
def starts : IVec S1024x4 32 :=
  join (column (wrapped s 8#32)) (broadcastInDim S1024x1 ![] bcast_S_S1024x1 (constantI S_ 32 0#32)) (column (wrapped (ys A) 128#32)) (column (wrapped (xs A) 128#32))

/-- A clipped word is not negative, and is its natural number. -/
theorem clipW_toInt (v : BitVec 32) : (clipW v).toInt = clipN v := by
  have h := clipN_le v
  exact StableHlo.Predicate.toInt_eq_toNat_of_lt (show clipN v < 2 ^ 31 by omega)

/-- A region starts in its sample. -/
theorem starts_zero (n : ℕ) (hn : n < 1024) (hs : (s (at1 n hn)).toNat < 8) : (starts A s (at2 n 0 hn (by decide))).toInt.toNat = (s (at1 n hn)).toNat := by
  have e := StableHlo.Predicate.toInt_eq_toNat_of_lt (a := s (at1 n hn)) (by omega)
  unfold starts
  rw [join_zero, column_apply, wrapped_apply s _ _ (by omega), e, Int.toNat_natCast]

/-- A region starts at the first channel. -/
theorem starts_one (n : ℕ) (hn : n < 1024) : (starts A s (at2 n 1 hn (by decide))).toInt.toNat = 0 := by
  unfold starts
  rw [join_one]
  exact (by decide : (0#32 : BitVec 32).toInt.toNat = 0)

/-- A region starts at its box's clipped row. -/
theorem starts_two (n : ℕ) (hn : n < 1024) : (starts A s (at2 n 2 hn (by decide))).toInt.toNat = clipN (A (at2 n 0 hn (by decide))) := by
  unfold starts
  have e := clipW_toInt (A (at2 n 0 hn (by decide)))
  rw [join_two, column_apply, wrapped_apply (ys A) _ _ (by rw [ys_apply]; omega), ys_apply, e, Int.toNat_natCast]

/-- A region starts at its box's clipped column. -/
theorem starts_three (n : ℕ) (hn : n < 1024) : (starts A s (at2 n 3 hn (by decide))).toInt.toNat = clipN (A (at2 n 1 hn (by decide))) := by
  unfold starts
  have e := clipW_toInt (A (at2 n 1 hn (by decide)))
  rw [join_three, column_apply, wrapped_apply (xs A) _ _ (by rw [xs_apply]; omega), xs_apply, e, Int.toNat_natCast]

/-- The index of a region's element before its unit axis is dropped. -/
def at5 (n c u v : ℕ) (hn : n < 1024) (hc : c < 256) (hu : u < 16) (hv : v < 16) : S1024x1x256x16x16.Idx
  | ⟨0, _⟩ => ⟨n, hn⟩ | ⟨1, _⟩ => ⟨0, Nat.one_pos⟩ | ⟨2, _⟩ => ⟨c, hc⟩ | ⟨3, _⟩ => ⟨u, hu⟩ | ⟨4, _⟩ => ⟨v, hv⟩

/-- The dimension numbers of the reference's slices. -/
abbrev dims := gather_S8x256x128x128_S1024x4_S1024x1x256x16x16_1234_n_n_n_0123_1_12561616

/-- Where a region's element reads its start on each axis. -/
theorem start_idx (n c u v : ℕ) (hn : n < 1024) (hc : c < 256) (hu : u < 16) (hv : v < 16) (k : Fin dims.startIndexMap.length) :
    dims.siIdx (at5 n c u v hn hc hu hv) k = at2 n k.val hn k.isLt := by
  funext b
  refine Fin.ext ?_
  match b with
  | ⟨0, _⟩ => rfl
  | ⟨1, _⟩ => rfl

variable {F : FTy → Type}

/-- The gather read at an element. -/
theorem gather_apply (fm : S8x256x128x128.Idx → Elt F .f32) (idx : IVec S1024x4 32) (n c u v : ℕ) (hn : n < 1024) (hc : c < 256) (hu : u < 16) (hv : v < 16) :
    Host.gather dims fm idx (at5 n c u v hn hc hu hv)
      = at4 fm (min (idx (at2 n 0 hn (by decide))).toInt.toNat 7) (min (idx (at2 n 1 hn (by decide))).toInt.toNat 0 + c)
          (min (idx (at2 n 2 hn (by decide))).toInt.toNat 112 + u) (min (idx (at2 n 3 hn (by decide))).toInt.toNat 112 + v) := by
  unfold Host.gather at4
  refine congrArg fm (funext fun a => Fin.ext ?_)
  have e : ∀ b : Fin S8x256x128x128.rank, dims.start (at5 n c u v hn hc hu hv) idx b = min (idx (at2 n b.val hn b.isLt)).toInt.toNat (S8x256x128x128.size b - dims.sliceSizes b) := by
    intro b
    have hb : b ∈ dims.startIndexMap := by revert b; decide
    unfold GatherDims.start
    rw [dif_pos hb, start_idx]
    have hk : dims.startIndexMap.idxOf b = b.val := by revert b; decide
    congr 5
  show dims.start _ idx a + dims.batchCoord _ a + dims.offCoord _ a = _
  rw [e, GatherDims.batchCoord_eq_zero _ _ _ List.not_mem_nil]
  match a with
  | ⟨0, _⟩ => show min (idx (at2 n 0 hn (by decide))).toInt.toNat 7 + 0 + 0 = _ % 8; omega
  | ⟨1, _⟩ => show min (idx (at2 n 1 hn (by decide))).toInt.toNat 0 + 0 + c = _ % 256; omega
  | ⟨2, _⟩ => show min (idx (at2 n 2 hn (by decide))).toInt.toNat 112 + 0 + u = _ % 128; omega
  | ⟨3, _⟩ => show min (idx (at2 n 3 hn (by decide))).toInt.toNat 112 + 0 + v = _ % 128; omega

/-- The kernel's first result is the reference's. -/
theorem crops_eq (fm : S8x256x128x128.Idx → Elt F .f32) (h : S1024x2.ShapeCasts ⟨1, ![2048]⟩) (hs : ∀ (n : ℕ) (hn : n < 1024), (s (at1 n hn)).toNat < 8) :
    shapeCast S1024x256x16x16 (Host.gather dims fm (starts A s)) shapeCasts_S1024x1x256x16x16_S1024x256x16x16 = outV fm (shapeCast _ A h) s := by
  funext y
  have h0 : (y 0).val < 1024 := (y 0).isLt
  have h1 : (y 1).val < 256 := (y 1).isLt
  have h2 : (y 2).val < 16 := (y 2).isLt
  have h3 : (y 3).val < 16 := (y 3).isLt
  rw [shapeCast_apply _ _ y (at5 (y 0).val (y 1).val (y 2).val (y 3).val h0 h1 h2 h3) (by
    rw [Shape.rowMajor_val_five, Shape.rowMajor_val_four]
    show ((((y 0).val * 1 + 0) * 256 + (y 1).val) * 16 + (y 2).val) * 16 + (y 3).val = (((y 0).val * 256 + (y 1).val) * 16 + (y 2).val) * 16 + (y 3).val
    omega)]
  unfold outV
  generalize (y 0).val = n at h0
  rw [gather_apply, starts_zero A s n h0 (hs n h0), starts_one, starts_two, starts_three, sampleAt_pos s n h0, boxAt_pairs A h n 1 h0 (by decide),
    show 2 * n = 2 * n + 0 from rfl, boxAt_pairs A h n 0 h0 (by decide)]
  have e0 := hs n h0
  rw [Nat.min_eq_left (Nat.le_of_lt_succ e0), Nat.min_eq_left (clipN_le _), Nat.min_eq_left (clipN_le _), Nat.min_zero, Nat.zero_add]

/-! ## The counts -/

/-- The samples, as the reference's count reads them. -/
def bins : IVec S1024 32 := wrapped (maxsi (broadcastInDim S1024 ![] bcast_S_S1024 (id (constantI S_ 32 0#32))) s) 8#32

/-- A sample in range is read as it is. -/
theorem bins_apply (n : ℕ) (hn : n < 1024) (hs : (s (at1 n hn)).toNat < 8) : bins s (at1 n hn) = s (at1 n hn) := by
  have e := StableHlo.Predicate.toInt_eq_toNat_of_lt (a := s (at1 n hn)) (by omega)
  have e0 : (0#32 : BitVec 32).toInt = 0 := by decide
  have em : IntOp.maxsi 0#32 (s (at1 n hn)) = s (at1 n hn) := by
    unfold IntOp.maxsi
    refine if_neg ?_
    rw [BitVec.slt_eq_decide, decide_eq_true_eq]
    omega
  unfold bins
  rw [wrapped_apply _ _ _ (by show 0 ≤ (IntOp.maxsi 0#32 (s (at1 n hn))).toInt; rw [em]; omega)]
  exact em

/-- The reference's counts. -/
def counts : IVec S8 32 :=
  Host.scatter scatter_S8_S1024x1_S1024_n_0_0_1 IntOp.addi (broadcastInDim S8 ![] bcast_S_S8 (constantI S_ 32 0#32)) (column (bins s)) (same 1#32)

/-- Ones added where a condition holds count it. -/
theorem fold_count {ι : Type} (p : ι → Prop) [DecidablePred p] : ∀ (l : List ι) (k : ℕ),
    l.foldl (fun a n => if p n then IntOp.addi a 1#32 else a) (BitVec.ofNat 32 k) = BitVec.ofNat 32 (k + l.countP fun n => decide (p n))
  | [], k => by rw [List.countP_nil]; rfl
  | n :: l, k => by
    rw [List.foldl_cons, List.countP_cons]
    by_cases h : p n
    · have e : IntOp.addi (BitVec.ofNat 32 k) 1#32 = BitVec.ofNat 32 (k + 1) := (BitVec.ofNat_add _ _).symm
      rw [if_pos h, e, fold_count p l (k + 1), if_pos (decide_eq_true h)]
      congr 1; omega
    · rw [if_neg h, fold_count p l k, if_neg (by simpa using h)]
      rfl

/-- The count of a condition on positions, over the positions as a finite set. -/
theorem count_card (N : ℕ) (p : ℕ → Prop) [DecidablePred p] : (List.finRange N).countP (fun n => decide (p n.val)) = ((Finset.range N).filter p).card := by
  have e : (List.finRange N).countP (fun n => decide (p n.val)) = ((List.finRange N).map Fin.val).countP (fun n => decide (p n)) := by
    rw [List.countP_map]; rfl
  rw [e, List.map_coe_finRange_eq_range, List.countP_eq_length_filter]
  rfl

/-- The kernel's third result is the reference's. -/
theorem counts_eq (h : Ascending s) : counts s = cntV s := by
  funext y
  rw [cntV_eq h]
  unfold counts
  rw [Routing.scatter_at]
  refine (fold_count (fun n : Fin S1024.numel => scatter_S8_S1024x1_S1024_n_0_0_1.resultIdx? (S1024.rowMajor.symm n) (column (bins s)) = some y) _ 0).trans ?_
  rw [Nat.zero_add]
  refine congrArg (BitVec.ofNat 32) ?_
  unfold equalSet
  refine Eq.trans ?_ (count_card 1024 fun n => (sampleAt s n).toNat = (y 0).val)
  refine List.countP_congr fun n _ => ?_
  rw [decide_eq_true_eq, decide_eq_true_eq, Routing.resultIdx?_eq_some]
  have hn : n.val < 1024 := n.isLt
  have hs := h.smp n.val hn
  rw [sampleAt_pos s n.val hn] at hs ⊢
  have e0 : ((S1024.rowMajor.symm n) 0).val = n.val := by
    have e := congrArg Fin.val (S1024.rowMajor.apply_symm_apply n)
    rwa [Shape.rowMajor_val_one] at e
  have e1 : scatter_S8_S1024x1_S1024_n_0_0_1.start (S1024.rowMajor.symm n) (column (bins s)) 0 = ((s (at1 n.val hn)).toNat : ℤ) := by
    unfold ScatterDims.start
    rw [dif_pos (by decide)]
    have ei : ∀ k : Fin scatter_S8_S1024x1_S1024_n_0_0_1.scatterDimsToOperandDims.length, scatter_S8_S1024x1_S1024_n_0_0_1.siIdx (S1024.rowMajor.symm n) k = at2 n.val 0 hn (by decide) := by
      intro k
      funext b
      refine Fin.ext ?_
      match b with
      | ⟨0, _⟩ => exact e0
      | ⟨1, _⟩ => exact Nat.lt_one_iff.mp k.isLt
    rw [ei, column_apply, bins_apply s n.val hn hs]
    exact StableHlo.Predicate.toInt_eq_toNat_of_lt (by omega)
  have e2 : scatter_S8_S1024x1_S1024_n_0_0_1.window (S1024.rowMajor.symm n) 0 = 0 := rfl
  constructor
  · intro H
    have := H 0
    rw [e1, e2] at this
    omega
  · intro H a
    match a with
    | ⟨0, _⟩ =>
      show scatter_S8_S1024x1_S1024_n_0_0_1.start (S1024.rowMajor.symm n) (column (bins s)) 0 + (scatter_S8_S1024x1_S1024_n_0_0_1.window (S1024.rowMajor.symm n) 0 : ℤ) = ((y 0).val : ℤ)
      rw [e1, e2]
      omega

/-- Samples in range that do not descend, whose first two are equal, ascend as the kernel's count needs. -/
theorem ascending_of (hs : ∀ (n : ℕ) (hn : n < 1024), (s (at1 n hn)).toNat < 8)
    (hm : ∀ (n : ℕ) (hn : n + 1 < 1024), (s (at1 n (by omega))).toInt ≤ (s (at1 (n + 1) hn)).toInt)
    (hf : s (at1 0 (by decide)) = s (at1 1 (by decide))) : Ascending s where
  smp n hn := by rw [sampleAt_pos s n hn]; exact hs n hn
  step n hn := by
    have h := hm n hn
    have h0 := hs n (by omega)
    have h1 := hs (n + 1) hn
    rw [StableHlo.Predicate.toInt_eq_toNat_of_lt (by omega), StableHlo.Predicate.toInt_eq_toNat_of_lt (by omega)] at h
    rw [sampleAt_pos s n (by omega), sampleAt_pos s (n + 1) hn]
    omega
  first := by rw [sampleAt_pos s 0 (by decide), sampleAt_pos s 1 (by decide)]; exact hf

end Cert.Proof.Reference

end
-- ==== Proof.lean ====
/-
  The proof of `Cert.Claim` (proofs.«01_k».proof.Defs): the program's frame at `Bits` and at `Ideal`, the reference's frame
  at `Ideal`, the same two at `Ideal` under the value claim's precondition, the idealization's rules (none), and the value
  claim: of sorted samples in range, whose first two are equal, the program and the reference leave the same five results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.Pre_in_range_sorted
public import proofs.«01_k».proof.Proof.Gen.ReferenceIdeal.Run
public import proofs.«01_k».proof.Proof.Inputs
public import proofs.«01_k».proof.Proof.InputsIdeal
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The program's frame at `Bits`. -/
theorem frame_kernel : Cert.quiescent_Kernel := fun m g hpre =>
  (θ_run (Cert.Kernel.defs (F := Bits)) _ _).mono (fun _ h => ⟨fun c => (h.1 c).2.2.2.2.2, h.2⟩)
    (Roi.run_main (F := Bits) m g fun d => Roi.inRange_of _ _ _ (Decode.in_range _ _ _ (hpre d)))

/-- The program's frame at `Ideal`. -/
theorem frame_ideal : Cert.quiescent_KernelIdeal := fun m g hpre =>
  (θ_run (Cert.KernelIdeal.defs (F := Ideal)) _ _).mono (fun _ h => ⟨fun c => (h.1 c).2.2.2.2.2, h.2⟩)
    (RoiIdeal.run_main (F := Ideal) m g fun d => RoiIdeal.inRange_of _ _ _ (Decode.in_range _ _ _ (hpre d)))

/-- The program's frame at `Ideal`, under the value claim's precondition. -/
theorem frame_ideal_sorted : Cert.quiescent_KernelIdeal_pre_in_range_sorted := fun m g hpre =>
  (θ_run (Cert.KernelIdeal.defs (F := Ideal)) _ _).mono (fun _ h => ⟨fun c => (h.1 c).2.2.2.2.2, h.2⟩)
    (RoiIdeal.run_main (F := Ideal) m g fun d => RoiIdeal.inRange_of _ _ _ (Decode.in_range_sorted _ _ _ (hpre d)).1)

/-- The reference's frame at `Ideal`; it declares no semaphore. -/
theorem frame_reference : Cert.quiescent_ReferenceIdeal := fun m g _ =>
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m g)

/-- The reference's frame under the value claim's precondition. -/
theorem frame_reference_sorted : Cert.quiescent_ReferenceIdeal_pre_in_range_sorted := fun m g _ =>
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m g)

/-- The two programs leave the same five results, of samples in range and sorted whose first two are equal: the regions, the
    corners and the counts are named by the kernel's values, which the reference's equal. -/
theorem algebraic : Cert.algebraic_KernelIdeal_ReferenceIdeal_pre_in_range_sorted := fun m g m' g' hpre hagree => by
  have hd := fun d => Decode.in_range_sorted _ _ _ (hpre d)
  have hs := fun d n hn => ((hd d).1 n hn).2
  refine ⟨fun c => RoiIdeal.outV (m (RoiIdeal.fmLoc c)) (RoiIdeal.bbOf m c) (m (RoiIdeal.asLoc c)),
    fun c => shapeCast Cert.KernelIdeal.S1024x4 (RoiIdeal.trackV (RoiIdeal.bbOf m c)) Cert.KernelIdeal.Gen.shapeCasts_S4096_S1024x4,
    fun c => RoiIdeal.cntV (m (RoiIdeal.asLoc c)), fun _ => constantI _ 32 128#32, fun _ => constantI _ 32 128#32, ?_, ?_⟩
  · exact (θ_run (Cert.KernelIdeal.defs (F := Ideal)) _ _).mono (fun _ h => h.1)
      (RoiIdeal.run_main (F := Ideal) m g fun d => RoiIdeal.inRange_of _ _ _ (hd d).1)
  · refine (θ_run (Cert.ReferenceIdeal.defs (F := Ideal)) _ _).mono (fun r h c => ?_) (Cert.ReferenceIdeal.Value.run (F := Ideal) m' g')
    obtain ⟨h0, h1, h2, h3, h4, h5⟩ := h c
    obtain ⟨a0, a1, a2⟩ := hagree c
    rw [a0, a1, a2] at h0
    rw [a1] at h1
    rw [a2] at h2
    exact ⟨h0.trans (Reference.crops_eq _ _ _ _ (hs c)), h1.trans (Reference.tracks_eq _ _ _),
      h2.trans (Reference.counts_eq _ (Reference.ascending_of _ (hs c) (hd c).2.1 (hd c).2.2)), h3, h4, h5⟩

/-- Everything the certificate claims. -/
theorem claim : Cert.Claim :=
  ⟨Cert.Kernel.Gen.facts, Cert.KernelIdeal.Gen.facts, Cert.ReferenceIdeal.Gen.facts, Cert.Pre_in_range.Gen.facts, Cert.Pre_in_range_sorted.Gen.facts,
    frame_kernel, frame_ideal, frame_ideal_sorted, frame_reference, frame_reference_sorted, trivial, algebraic⟩

end Cert.Proof

end
